-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 8192]⟩ ⟨2, ![8192, 8192]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 256]⟩ ⟨2, ![8192, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x8192 : Shape := ⟨2, ![512, 8192]⟩
abbrev S8192x4096 : Shape := ⟨2, ![8192, 4096]⟩
abbrev S8192x256 : Shape := ⟨2, ![8192, 256]⟩
abbrev S2x8192x256 : Shape := ⟨3, ![2, 8192, 256]⟩
abbrev S2x512x256 : Shape := ⟨3, ![2, 512, 256]⟩
abbrev S2 : Shape := ⟨1, ![2]⟩
abbrev S_ : Shape := ⟨0, ![]⟩
abbrev S1 : Shape := ⟨1, ![1]⟩
abbrev S1x8192x256 : Shape := ⟨3, ![1, 8192, 256]⟩
abbrev S512x256 : Shape := ⟨2, ![512, 256]⟩
abbrev S1x512x256 : Shape := ⟨3, ![1, 512, 256]⟩

abbrev nBuf : Space → Nat
  | .hbm => 3
  | .vmem => 4
  | .smem => 0
  | _ => 0

abbrev bufTy : (tb : Table) → Fin (tcTables nBuf tb) → BufTy
  | .hbm, ⟨0, _⟩ => ⟨S512x8192, .f32⟩
  | .hbm, ⟨1, _⟩ => ⟨S8192x4096, .f32⟩
  | .hbm, ⟨2, _⟩ => ⟨S8192x256, .f32⟩
  | .local _ .vmem, ⟨0, _⟩ => ⟨S512x8192, .f32⟩
  | .local _ .vmem, ⟨1, _⟩ => ⟨S8192x256, .f32⟩
  | .local _ .vmem, ⟨2, _⟩ => ⟨S2x8192x256, .f32⟩
  | .local _ .vmem, ⟨3, _⟩ => ⟨S2x512x256, .f32⟩
  | _, _ => ⟨S512x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v64 : BitVec 32 := Scalar.muli v2 c256_i32
  ![0, v64.toNat]
def k0_off2 (d0 : Dev nD) (c0_i32_68 : BitVec 32) : Fin 2 → Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v72 : BitVec 32 := Scalar.addi v2 c0_i32_68
  let c1_i32_69 : BitVec 32 := 1#32
  let v73 : BitVec 32 := Scalar.addi v72 c1_i32_69
  let c16_i32_70 : BitVec 32 := 16#32
  let v74 : BitVec 32 := Scalar.remsi v73 c16_i32_70
  let c256_i32_71 : BitVec 32 := 256#32
  let v75 : BitVec 32 := Scalar.muli v74 c256_i32_71
  ![0, v75.toNat]
def k0_off3 (d0 : Dev nD) (c0_i32_66 : BitVec 32) : Fin 2 → Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v70 : BitVec 32 := Scalar.addi v2 c0_i32_66
  let c16_i32_67 : BitVec 32 := 16#32
  let v71 : BitVec 32 := Scalar.remsi v70 c16_i32_67
  let c256_i32_77 : BitVec 32 := 256#32
  let v81 : BitVec 32 := Scalar.muli v71 c256_i32_77
  ![0, v81.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32 : BitVec 32 := 512#32
  let v92 : BitVec 32 := Scalar.muli v2 c512_i32
  let v93 : Index := Scalar.indexCast v92
  let c0_87 : Index := 0#32
  ![v93.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c512_i32_113 : BitVec 32 := 512#32
  let v120 : BitVec 32 := Scalar.muli v2 c512_i32_113
  let c0_i32_118 : BitVec 32 := 0#32
  ![v120.toNat, 0]
def k0_dev16 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_88 : BitVec 32 := 1#32
  let v95 : BitVec 32 := Scalar.addi v2 c1_i32_88
  let c16_i32_89 : BitVec 32 := 16#32
  let v96 : BitVec 32 := Scalar.remsi v95 c16_i32_89
  let c1_i32_116 : BitVec 32 := 1#32
  let v121 : BitVec 32 := Scalar.muli v96 c1_i32_116
  let v122 : BitVec 32 := Scalar.addi c0_i32_117 v121
  v122.toNat
def k0_dev17 (d0 : Dev nD) : Nat :=
  let c0_i32_151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_121 : BitVec 32 := 2#32
  let v128 : BitVec 32 := Scalar.addi v2 c2_i32_121
  let c16_i32_122 : BitVec 32 := 16#32
  let v129 : BitVec 32 := Scalar.remsi v128 c16_i32_122
  let c1_i32_150 : BitVec 32 := 1#32
  let v154 : BitVec 32 := Scalar.muli v129 c1_i32_150
  let v155 : BitVec 32 := Scalar.addi c0_i32_151 v154
  v155.toNat
def k0_dev18 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_155 : BitVec 32 := 3#32
  let v161 : BitVec 32 := Scalar.addi v2 c3_i32_155
  let c16_i32_156 : BitVec 32 := 16#32
  let v162 : BitVec 32 := Scalar.remsi v161 c16_i32_156
  let c1_i32_191 : BitVec 32 := 1#32
  let v193 : BitVec 32 := Scalar.muli v162 c1_i32_191
  let v194 : BitVec 32 := Scalar.addi c0_i32_192 v193
  v194.toNat
def k0_dev19 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_196 : BitVec 32 := 4#32
  let v200 : BitVec 32 := Scalar.addi v2 c4_i32_196
  let c16_i32_197 : BitVec 32 := 16#32
  let v201 : BitVec 32 := Scalar.remsi v200 c16_i32_197
  let c1_i32_232 : BitVec 32 := 1#32
  let v232 : BitVec 32 := Scalar.muli v201 c1_i32_232
  let v233 : BitVec 32 := Scalar.addi c0_i32_233 v232
  v233.toNat
def k0_dev20 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_237 : BitVec 32 := 5#32
  let v239 : BitVec 32 := Scalar.addi v2 c5_i32_237
  let c16_i32_238 : BitVec 32 := 16#32
  let v240 : BitVec 32 := Scalar.remsi v239 c16_i32_238
  let c1_i32_273 : BitVec 32 := 1#32
  let v271 : BitVec 32 := Scalar.muli v240 c1_i32_273
  let v272 : BitVec 32 := Scalar.addi c0_i32_274 v271
  v272.toNat
def k0_dev21 (d0 : Dev nD) : Nat :=
  let c0_i32_315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_278 : BitVec 32 := 6#32
  let v278 : BitVec 32 := Scalar.addi v2 c6_i32_278
  let c16_i32_279 : BitVec 32 := 16#32
  let v279 : BitVec 32 := Scalar.remsi v278 c16_i32_279
  let c1_i32_314 : BitVec 32 := 1#32
  let v310 : BitVec 32 := Scalar.muli v279 c1_i32_314
  let v311 : BitVec 32 := Scalar.addi c0_i32_315 v310
  v311.toNat
def k0_dev22 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_319 : BitVec 32 := 7#32
  let v317 : BitVec 32 := Scalar.addi v2 c7_i32_319
  let c16_i32_320 : BitVec 32 := 16#32
  let v318 : BitVec 32 := Scalar.remsi v317 c16_i32_320
  let c1_i32_355 : BitVec 32 := 1#32
  let v349 : BitVec 32 := Scalar.muli v318 c1_i32_355
  let v350 : BitVec 32 := Scalar.addi c0_i32_356 v349
  v350.toNat
def k0_dev23 (d0 : Dev nD) : Nat :=
  let c0_i32_397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_360 : BitVec 32 := 8#32
  let v356 : BitVec 32 := Scalar.addi v2 c8_i32_360
  let c16_i32_361 : BitVec 32 := 16#32
  let v357 : BitVec 32 := Scalar.remsi v356 c16_i32_361
  let c1_i32_396 : BitVec 32 := 1#32
  let v388 : BitVec 32 := Scalar.muli v357 c1_i32_396
  let v389 : BitVec 32 := Scalar.addi c0_i32_397 v388
  v389.toNat
def k0_dev24 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_401 : BitVec 32 := 9#32
  let v395 : BitVec 32 := Scalar.addi v2 c9_i32_401
  let c16_i32_402 : BitVec 32 := 16#32
  let v396 : BitVec 32 := Scalar.remsi v395 c16_i32_402
  let c1_i32_437 : BitVec 32 := 1#32
  let v427 : BitVec 32 := Scalar.muli v396 c1_i32_437
  let v428 : BitVec 32 := Scalar.addi c0_i32_438 v427
  v428.toNat
def k0_dev25 (d0 : Dev nD) : Nat :=
  let c0_i32_479 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_442 : BitVec 32 := 10#32
  let v434 : BitVec 32 := Scalar.addi v2 c10_i32_442
  let c16_i32_443 : BitVec 32 := 16#32
  let v435 : BitVec 32 := Scalar.remsi v434 c16_i32_443
  let c1_i32_478 : BitVec 32 := 1#32
  let v466 : BitVec 32 := Scalar.muli v435 c1_i32_478
  let v467 : BitVec 32 := Scalar.addi c0_i32_479 v466
  v467.toNat
def k0_dev26 (d0 : Dev nD) : Nat :=
  let c0_i32_520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_483 : BitVec 32 := 11#32
  let v473 : BitVec 32 := Scalar.addi v2 c11_i32_483
  let c16_i32_484 : BitVec 32 := 16#32
  let v474 : BitVec 32 := Scalar.remsi v473 c16_i32_484
  let c1_i32_519 : BitVec 32 := 1#32
  let v505 : BitVec 32 := Scalar.muli v474 c1_i32_519
  let v506 : BitVec 32 := Scalar.addi c0_i32_520 v505
  v506.toNat
def k0_dev27 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_524 : BitVec 32 := 12#32
  let v512 : BitVec 32 := Scalar.addi v2 c12_i32_524
  let c16_i32_525 : BitVec 32 := 16#32
  let v513 : BitVec 32 := Scalar.remsi v512 c16_i32_525
  let c1_i32_560 : BitVec 32 := 1#32
  let v544 : BitVec 32 := Scalar.muli v513 c1_i32_560
  let v545 : BitVec 32 := Scalar.addi c0_i32_561 v544
  v545.toNat
def k0_dev28 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_565 : BitVec 32 := 13#32
  let v551 : BitVec 32 := Scalar.addi v2 c13_i32_565
  let c16_i32_566 : BitVec 32 := 16#32
  let v552 : BitVec 32 := Scalar.remsi v551 c16_i32_566
  let c1_i32_601 : BitVec 32 := 1#32
  let v583 : BitVec 32 := Scalar.muli v552 c1_i32_601
  let v584 : BitVec 32 := Scalar.addi c0_i32_602 v583
  v584.toNat
def k0_dev29 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_606 : BitVec 32 := 14#32
  let v590 : BitVec 32 := Scalar.addi v2 c14_i32_606
  let c16_i32_607 : BitVec 32 := 16#32
  let v591 : BitVec 32 := Scalar.remsi v590 c16_i32_607
  let c1_i32_642 : BitVec 32 := 1#32
  let v622 : BitVec 32 := Scalar.muli v591 c1_i32_642
  let v623 : BitVec 32 := Scalar.addi c0_i32_643 v622
  v623.toNat
def k0_dev30 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_647 : BitVec 32 := 15#32
  let v629 : BitVec 32 := Scalar.addi v2 c15_i32_647
  let c16_i32_648 : BitVec 32 := 16#32
  let v630 : BitVec 32 := Scalar.remsi v629 c16_i32_648
  let c1_i32_674 : BitVec 32 := 1#32
  let v652 : BitVec 32 := Scalar.muli v630 c1_i32_674
  let v653 : BitVec 32 := Scalar.addi c0_i32_675 v652
  v653.toNat
def k0_off6 (d0 : Dev nD) (c1_i32_693 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v671 : BitVec 32 := Scalar.addi v2 c1_i32_693
  let c16_i32_694 : BitVec 32 := 16#32
  let v672 : BitVec 32 := Scalar.remsi v671 c16_i32_694
  let c512_i32_695 : BitVec 32 := 512#32
  let v673 : BitVec 32 := Scalar.muli v672 c512_i32_695
  let c0_i32_700 : BitVec 32 := 0#32
  ![v673.toNat, 0]
abbrev stage0_0 : Fin 1 → Memref sig .tc .vmem S512x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Steps.lean ====
/- The kernel's body as a loop: the printed function runs its sixteen steps one after another; here the
   same operations are written once, over the step number, and the printed function is shown to be them. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Exchange

open Cert.KernelIdeal Cert.KernelIdeal.Gen
open Idealize.ShloMosaic Idealize.ShloMosaic.TcCoe
open Idealize.SL Idealize.SL.Sem

variable {F : FTy → Type} [FloatOps F]

/-! ## The buffers -/

/-- The rows of `x` this device holds, staged. -/
abbrev xM : Memref sig .tc .vmem S512x8192 .f32 := Memref.whole cc0_stg0_0
/-- The whole of `w`, in HBM. -/
abbrev wM : Memref sig .tc .hbm S8192x4096 .f32 := Memref.whole main_arg1
/-- The output columns this device ends up with, staged. -/
abbrev oM : Memref sig .tc .vmem S8192x256 .f32 := Memref.whole cc0_stg1_0
/-- The two column blocks of `w` being worked on. -/
abbrev wbM : Memref sig .tc .vmem S2x8192x256 .f32 := Memref.whole cc0_scratch0
/-- The two products being sent. -/
abbrev ybM : Memref sig .tc .vmem S2x512x256 .f32 := Memref.whole cc0_scratch1

theorem wb_inb : ∀ b : Fin 2, ∀ a, (![b.val, 0, 0] : Fin 3 → Nat) a + S1x8192x256.size a ≤ S2x8192x256.size a := by decide +kernel
theorem yb_inb : ∀ b : Fin 2, ∀ a, (![b.val, 0, 0] : Fin 3 → Nat) a + S1x512x256.size a ≤ S2x512x256.size a := by decide +kernel
theorem sem_inb : ∀ b : Fin 2, ∀ a, (![b.val] : Fin 1 → Nat) a + S1.size a ≤ S2.size a := by decide +kernel
theorem next_inb : ∀ d0 : Dev nD, ∀ s : Fin 16, ∀ a, (k0_off2 d0 (BitVec.ofNat 32 s.val)) a + S8192x256.size a ≤ S8192x4096.size a := by
  decide +kernel
theorem from_inb : ∀ d0 : Dev nD, ∀ s : Fin 16, ∀ a, (k0_off6 d0 (BitVec.ofNat 32 s.val)) a + S512x256.size a ≤ S8192x256.size a := by
  decide +kernel

abbrev wSlice (b : Fin 2) : Memref sig .tc .vmem S1x8192x256 .f32 :=
  wbM.slice (Rect.unit (s := S2x8192x256) ![b.val, 0, 0] S1x8192x256.size (wb_inb b)) (fun _ => rfl)
abbrev wSlot (b : Fin 2) : Memref sig .tc .vmem S8192x256 .f32 := (wSlice b).squeeze S8192x256 squeezes_S1x8192x256_S8192x256
abbrev ySlice (b : Fin 2) : Memref sig .tc .vmem S1x512x256 .f32 :=
  ybM.slice (Rect.unit (s := S2x512x256) ![b.val, 0, 0] S1x512x256.size (yb_inb b)) (fun _ => rfl)
abbrev ySlot (b : Fin 2) : Memref sig .tc .vmem S512x256 .f32 := (ySlice b).squeeze S512x256 squeezes_S1x512x256_S512x256
/-- The column block of `w` at an offset. -/
abbrev wCols (off : Fin 2 → Nat) (h : ∀ a, off a + S8192x256.size a ≤ S8192x4096.size a) : Memref sig .tc .hbm S8192x256 .f32 :=
  wM.slice (Rect.unit (s := S8192x4096) off S8192x256.size h) (fun _ => rfl)
/-- The row block of the output at an offset. -/
abbrev oRows (off : Fin 2 → Nat) (h : ∀ a, off a + S512x256.size a ≤ S8192x256.size a) : Memref sig .tc .vmem S512x256 .f32 :=
  oM.slice (Rect.unit (s := S8192x256) off S512x256.size h) (fun _ => rfl)

abbrev wSem (b : Fin 2) : DmaSem sig := ((cc0_scratch2.slice (Rect.unit (s := S2) ![b.val] S1.size (sem_inb b))).squeeze S_ squeezes_S1_S_).sem
abbrev sSem (b : Fin 2) : DmaSem sig := ((cc0_scratch3.slice (Rect.unit (s := S2) ![b.val] S1.size (sem_inb b))).squeeze S_ squeezes_S1_S_).sem
abbrev rSem : DmaSem sig := cc0_scratch4.sem
abbrev barS : Sem sig := (SemArray.scalar (sig.barrier 0 rfl) : Sems sig S_).sem

/-! ## The peers -/

/-- The device `s` places along, by the words the kernel computes it with. -/
def fwdW (d0 : Dev nD) (k : BitVec 32) : Nat :=
  (Scalar.addi 0#32 (Scalar.muli (Scalar.remsi (Scalar.addi (Scalar.remsi (Scalar.divsi (Dev.word d0) 1#32) 16#32) k) 16#32) 1#32)).toNat
theorem fwdW_eq : ∀ (d0 : Dev nD) (s : Fin 16), fwdW d0 (BitVec.ofNat 32 s.val) = (d0.val + s.val) % 16 := by decide +kernel
theorem fwdW_lt (d0 : Dev nD) (s : Fin 16) : fwdW d0 (BitVec.ofNat 32 s.val) < nD := by
  rw [fwdW_eq]; exact Nat.mod_lt _ (by decide)
abbrev fwdD (d0 : Dev nD) (s : Fin 16) : Dev nD := ⟨fwdW d0 (BitVec.ofNat 32 s.val), fwdW_lt d0 s⟩

/-! ## The operations -/

local notation "PP" => Prog (TpuEff nD τ sig (Elt F) Λ₀ Proc.tc)

/-- The buffer slot of step `s`. -/
abbrev par (s : ℕ) : Fin 2 := ⟨s % 2, Nat.mod_lt _ (by decide)⟩

/-- The product one step computes. -/
def prodV (x : Vec F S512x8192 .f32) (w : Vec F S1x8192x256 .f32) : FVec F S512x256 .f32 := k0_pay1 x w
/-- The same with the unit axis of the buffer it is stored in. -/
def prodB (x : Vec F S512x8192 .f32) (w : Vec F S1x8192x256 .f32) : FVec F S1x512x256 .f32 := k0_pay2 x w

def startW (off : Fin 2 → Nat) (h : ∀ a, off a + S8192x256.size a ≤ S8192x4096.size a) (b : Fin 2) : PP PUnit :=
  Prog.lift (.enqueueDma (wCols off h) (.here (wSlot b)) (.dma (wSem b)) (View.wordExact_bits rfl) ((View.wordExact_bits rfl).reshape _ _) ⟨Or.inl rfl, trivial⟩)
def waitW (d0 : Dev nD) (s : Fin 16) (b : Fin 2) : PP PUnit :=
  Prog.lift (.waitDma2 (wSem b) (wCols (k0_off3 d0 (BitVec.ofNat 32 s.val)) (k0_off3_inb d0 s)) (wSlot b) (View.wordExact_bits rfl) ((View.wordExact_bits rfl).reshape _ _))
def loadX : PP (Vec F S512x8192 .f32) :=
  Prog.lift (.load xM (Rect.unit (s := S512x8192) ![0, 0] S512x8192.size inb_S512x8192_S512x8192_0_0).toLoadRect (View.loadsAt_vmem h_S512x8192))
def loadW (b : Fin 2) : PP (Vec F S1x8192x256 .f32) :=
  Prog.lift (.load wbM (Rect.unit (s := S2x8192x256) ![b.val, 0, 0] S1x8192x256.size (wb_inb b)).toLoadRect (View.loadsAt_vmem h_S1x8192x256))
def loadO (d0 : Dev nD) : PP (Vec F S512x256 .f32) :=
  Prog.lift (.load oM (Rect.unit (s := S8192x256) (k0_off4 d0) S512x256.size (k0_off4_inb d0)).toLoadRect (View.loadsAt_vmem h_S512x256))
def storeO (d0 : Dev nD) (v : FVec F S512x256 .f32) : PP PUnit :=
  Prog.lift (.store oM (Rect.unit (s := S8192x256) (k0_off4 d0) S512x256.size (k0_off4_inb d0)) v Finset.univ (View.stores_vmem_bits_univ h_S512x256 rfl) (.inl rfl))
def loadY (b : Fin 2) : PP (Vec F S1x512x256 .f32) :=
  Prog.lift (.load ybM (Rect.unit (s := S2x512x256) ![b.val, 0, 0] S1x512x256.size (yb_inb b)).toLoadRect (View.loadsAt_vmem h_S1x512x256))
def storeY (b : Fin 2) (v : FVec F S1x512x256 .f32) : PP PUnit :=
  Prog.lift (.store ybM (Rect.unit (s := S2x512x256) ![b.val, 0, 0] S1x512x256.size (yb_inb b)) v Finset.univ (View.stores_vmem_bits_univ h_S1x512x256 rfl) (.inl rfl))
def waitS (d0 : Dev nD) (b : Fin 2) : PP PUnit :=
  Prog.lift (.waitDma2 (sSem b) (oRows (k0_off5 d0) (k0_off5_inb d0)) (ySlot b) (View.wordExact_bits rfl) ((View.wordExact_bits rfl).reshape _ _))
def sendY (d0 : Dev nD) (s : Fin 16) (b : Fin 2) : PP PUnit :=
  Prog.lift (.enqueueDma (ySlot b) (.remote (Dev.tc (fwdD d0 s)) (oRows (k0_off5 d0) (k0_off5_inb d0)) (.dma (sSem b))) (.dma rSem)
    ((View.wordExact_bits rfl).reshape _ _) (View.wordExact_bits rfl) ⟨⟨rfl, Or.inl rfl⟩, trivial⟩)
def waitR (d0 : Dev nD) (s : Fin 16) : PP PUnit :=
  Prog.lift (.waitDma2 rSem (ySlot 0) (oRows (k0_off6 d0 (BitVec.ofNat 32 s.val)) (from_inb d0 s)) ((View.wordExact_bits rfl).reshape _ _) (View.wordExact_bits rfl))

/-! ## The steps -/

/-- One sending step. `nxt`: it starts the copy of the next column block; `old`: its product buffer was
    sent before, and that transfer is waited for. -/
def step (d0 : Dev nD) (s : Fin 16) (nxt old : Bool) : PP PUnit := do
  if nxt then startW (k0_off2 d0 (BitVec.ofNat 32 s.val)) (next_inb d0 s) (par (s.val + 1))
  waitW d0 s (par s.val)
  let x ← loadX
  let w ← loadW (par s.val)
  if old then waitS d0 (par (s.val + 1))
  let _ ← loadY (par (s.val + 1))
  storeY (par (s.val + 1)) (prodB x w)
  sendY d0 s (par (s.val + 1))

/-- The first step, whose product stays here. -/
def step0 (d0 : Dev nD) : PP PUnit := do
  startW (k0_off1 d0) (k0_off1_inb d0) 0
  startW (k0_off2 d0 (BitVec.ofNat 32 (0 : Fin 16).val)) (next_inb d0 0) 1
  waitW d0 0 0
  let x ← loadX
  let w ← loadW 0
  let _ ← loadO d0
  storeO d0 (prodV x w)

/-- Run a program at each peer number in a list, in order. -/
def each (f : Fin 16 → PP PUnit) : List (Fin 16) → PP PUnit
  | [] => pure ⟨⟩
  | s :: l => do f s; each f l

abbrev peers : List (Fin 16) := [1, 2, 3, 4, 5, 6, 7, 8, 9, 10, 11, 12, 13, 14, 15]
abbrev middles : List (Fin 16) := [3, 4, 5, 6, 7, 8, 9, 10, 11, 12, 13, 14]

def signals (d0 : Dev nD) : PP PUnit := each (fun s => semSignalWord (fwdD d0 s) barS 1#32) peers

/-- The whole body. -/
def loop : PP PUnit := do
  let d0 ← Prog.lift .deviceId
  signals d0
  semWaitWord barS 15#32
  step0 d0
  step d0 1 true false
  step d0 2 true false
  each (fun s => step d0 s true true) middles
  step d0 15 false true
  waitS d0 1
  waitS d0 0
  each (waitR d0) peers

/-- The printed body is the loop. -/
theorem body_eq : bodyAt0 (F := F) (⟨0, by decide⟩ : Fin cfg0.N) = loop := by
  chain_rfl

end Cert.KernelIdeal.Exchange
end
-- ==== Proof.KernelIdeal.Protocol.lean ====
/- The protocol of the exchange: the semaphore cells, who pays them and with what, the contents every landing
   hands over, and what each device owes at the start. -/
module

public import proofs.«01_k».proof.Proof.KernelIdeal.Steps
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duties are named by the device that pays them. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## A resource per entry of a list -/

section SepL
variable {J I : Type}

/-- One resource per entry of a list. -/
def sepL (Φ : J → sProp 𝕄) : List J → sProp 𝕄
  | [] => iprop(emp)
  | j :: l => iprop(Φ j ∗ sepL Φ l)

omit [FloatOps F] in
theorem sepL_of_bigSep [DecidableEq I] (Φ : I → sProp 𝕄) (f : J → I) (l : List J) :
    ∀ s : Finset I, (l.map f).Nodup → (∀ j ∈ l, f j ∈ s) → bigSep s Φ ⊢ sepL (fun j => Φ (f j)) l := by
  induction l with
  | nil => intro s _ _; unfold sepL; iintro -; iempintro
  | cons j l ih =>
    intro s hn hs
    refine (Entails.of_eq (bigSep_erase (hs j (List.mem_cons_self)))).trans (sep_mono_right (ih _ (List.nodup_cons.mp hn).2 fun k hk => Finset.mem_erase.mpr ⟨fun h => ?_, hs k (List.mem_cons_of_mem _ hk)⟩))
    exact (List.nodup_cons.mp hn).1 (h ▸ List.mem_map_of_mem hk)

omit [FloatOps F] in
theorem sepL_zip (Φ Ψ : J → sProp 𝕄) (l : List J) : iprop(sepL Φ l ∗ sepL Ψ l) ⊢ sepL (fun j => iprop(Φ j ∗ Ψ j)) l := by
  induction l with
  | nil => unfold sepL; iintro -; iempintro
  | cons j l ih =>
    unfold sepL
    iintro ⟨⟨H1, H2⟩, H3, H4⟩
    isplitl [H1 H3]
    · isplitl [H1] <;> iassumption
    iapply ih
    isplitl [H2] <;> iassumption

omit [FloatOps F] in
theorem sepL_append (Φ : J → sProp 𝕄) (l l' : List J) : sepL Φ (l ++ l') ⊢ iprop(sepL Φ l ∗ sepL Φ l') := by
  induction l with
  | nil => unfold sepL; iintro H; isplitr; · iempintro
           iexact H
  | cons j l ih =>
    show iprop(Φ j ∗ sepL Φ (l ++ l')) ⊢ iprop((Φ j ∗ sepL Φ l) ∗ sepL Φ l')
    iintro ⟨H1, H⟩
    ihave H' := ih $$ H
    icases H' with ⟨H2, H3⟩
    isplitl [H1 H2]
    · isplitl [H1] <;> iassumption
    iexact H3

omit [FloatOps F] in
theorem sepL_map (Φ : I → sProp 𝕄) (f : J → I) (l : List J) : sepL Φ (l.map f) = sepL (fun j => Φ (f j)) l := by
  induction l with
  | nil => rfl
  | cons j l ih => show iprop(Φ (f j) ∗ sepL Φ (l.map f)) = _; rw [ih]; rfl

end SepL

/-! ## The peers -/

theorem fwd_nodup : ∀ c : Dev nD, (peers.map (fwdD c)).Nodup := by decide +kernel
theorem fwd_ne : ∀ c : Dev nD, ∀ s ∈ peers, fwdD c s ≠ c := by decide +kernel

/-! ## The cells -/

/-- What a semaphore is for. -/
inductive Use
  | bar | recv | w (b : Fin 2) | y (b : Fin 2) | other
  deriving DecidableEq

def use (sm : SemLoc sig) : Use :=
  if sm = .reg barS then .bar else if sm = .dma rSem then .recv
  else if sm = .dma (wSem 0) then .w 0 else if sm = .dma (wSem 1) then .w 1
  else if sm = .dma (sSem 0) then .y 0 else if sm = .dma (sSem 1) then .y 1 else .other

abbrev barCell (c : Dev nD) : GSem nD τ sig := ((c : Thread nD τ), .reg barS)
abbrev recvCell (c : Dev nD) : GSem nD τ sig := ((c : Thread nD τ), .dma rSem)
abbrev wCell (c : Dev nD) (b : Fin 2) : GSem nD τ sig := ((c : Thread nD τ), .dma (wSem b))
abbrev yCell (c : Dev nD) (b : Fin 2) : GSem nD τ sig := ((c : Thread nD τ), .dma (sSem b))

theorem use_bar : use (.reg barS) = .bar := if_pos rfl
theorem use_recv : use (.dma rSem) = .recv := by decide
theorem use_w : ∀ b : Fin 2, use (.dma (wSem b)) = .w b := by decide
theorem use_y : ∀ b : Fin 2, use (.dma (sSem b)) = .y b := by decide

/-- The kernel's own semaphores, and all six the exchange runs on. -/
abbrev osem : Fin 5 → SemLoc sig := fun
  | 0 => .dma rSem | 1 => .dma (wSem 0) | 2 => .dma (wSem 1) | 3 => .dma (sSem 0) | 4 => .dma (sSem 1)
abbrev csem : Fin 6 → SemLoc sig := fun
  | 0 => .reg barS | 1 => .dma rSem | 2 => .dma (wSem 0) | 3 => .dma (wSem 1) | 4 => .dma (sSem 0) | 5 => .dma (sSem 1)
abbrev kcell (ck : Dev nD × Fin 6) : GSem nD τ sig := ((ck.1 : Thread nD τ), csem ck.2)
abbrev kw (b : Fin 2) : Fin 6 := ⟨2 + b.val, by omega⟩
abbrev ky (b : Fin 2) : Fin 6 := ⟨4 + b.val, by omega⟩
theorem kcell_w (c : Dev nD) (b : Fin 2) : kcell (c, kw b) = wCell c b := by fin_cases b <;> rfl
theorem kcell_y (c : Dev nD) (b : Fin 2) : kcell (c, ky b) = yCell c b := by fin_cases b <;> rfl

/-! ## The credits -/

/-- Row block `d` of the output, and its transfer's credit. -/
abbrev rowM (d : Dev nD) : Memref sig .tc .vmem S512x256 .f32 := oRows (k0_off5 d) (k0_off5_inb d)
def N : ℕ := (rowM 0).view.dmaCredit
theorem N_pos : 0 < N := View.dmaCredit_pos _ (by decide)
theorem row_credit (off : Fin 2 → ℕ) (h) : (oRows off h).view.dmaCredit = N := rfl
theorem y_credit (b : Fin 2) : (ySlot b).view.dmaCredit = N := rfl
def Nw : ℕ := (wSlot 0).view.dmaCredit
theorem Nw_pos : 0 < Nw := View.dmaCredit_pos _ (by decide)
theorem w_credit (b : Fin 2) : (wSlot b).view.dmaCredit = Nw := rfl

/-! ## The contents -/

/-- The rows of `x` on device `d`, as staged. -/
def xAt (d : Dev nD) : (cc0_stg0_0 : Ref sig .tc).ty.Contents (Elt F) :=
  (win0_0.blk (0 : Fin 1)).view.read (Elt F) (m ((d : Thread nD τ).loc main_arg0))

/-- `w` on device `d`. -/
abbrev wAt (d : Dev nD) : Buf (Elt F) ((d : Thread nD τ).loc main_arg1) := m ((d : Thread nD τ).loc main_arg1)

theorem col_inb : ∀ e : Dev nD, ∀ a, (![0, 256 * e.val] : Fin 2 → Nat) a + S8192x256.size a ≤ S8192x4096.size a := by decide +kernel

/-- Column block `e` of `w` on device `d`. -/
def wBlk (d e : Dev nD) : FVec F S8192x256 .f32 := (wCols ![0, 256 * e.val] (col_inb e)).view.read (Elt F) (wAt m d)

/-- The product of the rows on one device with a column block. -/
def prod2 (x : Vec F S512x8192 .f32) (w : FVec F S8192x256 .f32) : FVec F S512x256 .f32 :=
  matmul dot_S512x8192_S8192x256_S512x256_1_0_0_1_n_n none (shapeCast S512x8192 x shapeCasts_S512x8192_S512x8192) w (constant S512x256 .f32 0x00000000#32)

/-- An element of the output: its row block and its place there. -/
def rowOf (i : S8192x256.Idx) : Dev nD := ⟨(i 0).val / 512, by have : (i 0).val < 8192 := (i 0).isLt; show _ < 16; omega⟩
def inRow (i : S8192x256.Idx) : S512x256.Idx := Fin.cons ⟨(i 0).val % 512, Nat.mod_lt _ (by decide)⟩ (Fin.cons ⟨(i 1).val, (i 1).isLt⟩ finZeroElim)

/-- The output of device `e`: row block `d` is device `d`'s rows times `d`'s copy of column block `e`. -/
def outAt (e : Dev nD) : (cc0_stg1_0 : Ref sig .tc).ty.Contents (Elt F) := fun i => prod2 (xAt m (rowOf i)) (wBlk m (rowOf i) e) (inRow i)

/-! ## What is handed over -/

/-- Row block `d` of the output buffer of device `e`. -/
def rowPts (d e : Dev nD) (f : Buf (Elt F) ((rowM d).view.loc (e : Thread nD τ))) : sProp 𝕄 :=
  (rowM d).view.loc (e : Thread nD τ) ↦[(rowM d).view.set]{fullShare} f
/-- A product slot, a column block slot. -/
def yPts (c : Dev nD) (b : Fin 2) (f : Buf (Elt F) ((ySlot b).view.loc (c : Thread nD τ))) : sProp 𝕄 :=
  (ySlot b).view.loc (c : Thread nD τ) ↦[(ySlot b).view.set]{fullShare} f
def wPts (c : Dev nD) (b : Fin 2) (f : Buf (Elt F) ((wSlot b).view.loc (c : Thread nD τ))) : sProp 𝕄 :=
  (wSlot b).view.loc (c : Thread nD τ) ↦[(wSlot b).view.set]{fullShare} f
/-- The share of `w` a slot's copies read with. -/
abbrev half (b : Fin 2) : PosShare TreeShare := if b = 0 then fullShare.left else fullShare.right
def srcPts (c : Dev nD) (b : Fin 2) : sProp 𝕄 := ((c : Thread nD τ).loc main_arg1) ↦{half b} wAt m c
/-- A column block slot holding the block for device `e`. -/
def wHas (c : Dev nD) (b : Fin 2) (e : Dev nD) : sProp 𝕄 := iprop(∃ f, ⌜(wSlot b).view.read (Elt F) f = wBlk m c e⌝ ∗ wPts c b f)

/-- The device step `s` computes for. -/
abbrev tgt (c : Dev nD) (s : ℕ) : Dev nD := ⟨(c.val + s) % 16, Nat.mod_lt _ (by decide)⟩

def barPay (c d : Dev nD) : sProp 𝕄 := iprop(∃ f, rowPts c d f)
def recvPay (c d : Dev nD) : sProp 𝕄 := rowPts d c (outAt m c)
def wPay (c : Dev nD) (b : Fin 2) (r : ℕ) : sProp 𝕄 := iprop(wHas m c b (tgt c (2 * r + b.val)) ∗ srcPts m c b)
def yPay (c : Dev nD) (b : Fin 2) : sProp 𝕄 := iprop(∃ f, yPts c b f)

/-! ## The schedule -/

def dutiesOf (c : Dev nD) (r : ℕ) : Use → Finset (Dev nD)
  | .bar | .recv => if r = 0 then Finset.univ.erase c else ∅
  | .w _ => if r < 8 then {c} else ∅
  | .y b => if 2 * r + b.val < 15 then {c} else ∅
  | .other => ∅
def amountOf' : Use → ℕ
  | .bar | .other => 1 | .recv | .y _ => N | .w _ => Nw
def payOf (c : Dev nD) (r : ℕ) (d : Dev nD) : Use → sProp 𝕄
  | .bar => barPay c d | .recv => recvPay m c d | .w b => wPay m c b r | .y b => yPay c b | .other => iprop(emp)

/-- Barrier and receive cells: one round, a duty of every other device. The cells of a device's own copies and
    sends: a round per use of the slot, its one duty the device's own. -/
def sched : Rounds.Schedule (GSem nD τ sig) (Dev nD) 𝕄 where
  duties g r := if g.1.2 = .tc then dutiesOf g.1.1 r (use g.2) else ∅
  unitless _ := False
  amount g _ _ := amountOf' (use g.2)
  payload g r d := payOf m g.1.1 r d (use g.2)
  amount_pos g _ _ _ := by cases use g.2 <;> first | exact Nat.one_pos | exact N_pos | exact Nw_pos

omit [FloatOps F] in
instance rowPts_storable (d e : Dev nD) (f) : BI.Storable (upEmb : UEmb _ 𝕄) (rowPts (F := F) d e f) := by unfold rowPts; infer_instance
omit [FloatOps F] in
instance yPts_storable (c : Dev nD) (b) (f) : BI.Storable (upEmb : UEmb _ 𝕄) (yPts (F := F) c b f) := by unfold yPts; infer_instance
omit [FloatOps F] in
instance wPts_storable (c : Dev nD) (b) (f) : BI.Storable (upEmb : UEmb _ 𝕄) (wPts (F := F) c b f) := by unfold wPts; infer_instance
omit [FloatOps F] in
instance srcPts_storable (c : Dev nD) (b) : BI.Storable (upEmb : UEmb _ 𝕄) (srcPts (F := F) m c b) := by unfold srcPts; infer_instance

instance sched_payload_storable (g : GSem nD τ sig) (r : ℕ) (d : Dev nD) :
    BI.Storable (upEmb : UEmb _ 𝕄) ((sched (F := F) m).payload g r d) := by
  show BI.Storable upEmb (payOf m g.1.1 r d (use g.2))
  cases use g.2 <;> (unfold payOf) <;> (try unfold barPay) <;> (try unfold recvPay) <;> (try unfold wPay wHas) <;> (try unfold yPay) <;> infer_instance

section Sched
variable (c : Dev nD)

theorem duties_bar : (sched m).duties (barCell c) 0 = Finset.univ.erase c := rfl
theorem duties_recv : (sched m).duties (recvCell c) 0 = Finset.univ.erase c := by
  show dutiesOf c 0 (use (.dma rSem)) = _; rw [use_recv]; rfl
theorem duties_w (b : Fin 2) (r : ℕ) (h : r < 8) : (sched m).duties (wCell c b) r = {c} := by
  show dutiesOf c r (use (.dma (wSem b))) = _; rw [use_w]; exact if_pos h
theorem duties_y (b : Fin 2) (r : ℕ) (h : 2 * r + b.val < 15) : (sched m).duties (yCell c b) r = {c} := by
  show dutiesOf c r (use (.dma (sSem b))) = _; rw [use_y]; exact if_pos h
theorem duties_bar_after (r : ℕ) (h : 1 ≤ r) : (sched m).duties (barCell c) r = ∅ := by
  show dutiesOf c r (use (.reg barS)) = _; rw [use_bar]; exact if_neg (by omega)
theorem duties_recv_after (r : ℕ) (h : 1 ≤ r) : (sched m).duties (recvCell c) r = ∅ := by
  show dutiesOf c r (use (.dma rSem)) = _; rw [use_recv]; exact if_neg (by omega)
theorem duties_w_after (b : Fin 2) (r : ℕ) (h : 8 ≤ r) : (sched m).duties (wCell c b) r = ∅ := by
  show dutiesOf c r (use (.dma (wSem b))) = _; rw [use_w]; exact if_neg (by omega)
theorem duties_y_after (b : Fin 2) (r : ℕ) (h : 15 ≤ 2 * r + b.val) : (sched m).duties (yCell c b) r = ∅ := by
  show dutiesOf c r (use (.dma (sSem b))) = _; rw [use_y]; exact if_neg (by omega)

theorem amount_bar (r d) : (sched m).amount (barCell c) r d = 1 := rfl
theorem amount_recv (r d) : (sched m).amount (recvCell c) r d = N := by show amountOf' (use (.dma rSem)) = _; rw [use_recv]; rfl
theorem amount_w (b r d) : (sched m).amount (wCell c b) r d = Nw := by show amountOf' (use (.dma (wSem b))) = _; rw [use_w]; rfl
theorem amount_y (b r d) : (sched m).amount (yCell c b) r d = N := by show amountOf' (use (.dma (sSem b))) = _; rw [use_y]; rfl

theorem payload_bar (r d) : (sched m).payload (barCell c) r d = barPay c d := rfl
theorem payload_recv (r d) : (sched m).payload (recvCell c) r d = recvPay m c d := by show payOf m c r d (use (.dma rSem)) = _; rw [use_recv]; rfl
theorem payload_w (b r d) : (sched m).payload (wCell c b) r d = wPay m c b r := by show payOf m c r d (use (.dma (wSem b))) = _; rw [use_w]; rfl
theorem payload_y (b r d) : (sched m).payload (yCell c b) r d = yPay c b := by show payOf m c r d (use (.dma (sSem b))) = _; rw [use_y]; rfl

theorem card_erase : (Finset.univ.erase c).card = 15 := by rw [Finset.card_erase_of_mem (Finset.mem_univ _)]; rfl
theorem expect_bar : (sched m).expect (barCell c) 0 = 15 := by
  unfold Schedule.expect Schedule.amountOf
  rw [duties_bar, Finset.sum_congr rfl fun d _ => amount_bar m c 0 d, Finset.sum_const, card_erase]; rfl
theorem expect_recv : (sched m).expect (recvCell c) 0 = 15 * N := by
  unfold Schedule.expect Schedule.amountOf
  rw [duties_recv, Finset.sum_congr rfl fun d _ => amount_recv m c 0 d, Finset.sum_const, card_erase, smul_eq_mul]
theorem expect_w (b : Fin 2) (r : ℕ) (h : r < 8) : (sched m).expect (wCell c b) r = Nw := by
  unfold Schedule.expect Schedule.amountOf; rw [duties_w m c b r h, Finset.sum_singleton, amount_w]
theorem expect_y (b : Fin 2) (r : ℕ) (h : 2 * r + b.val < 15) : (sched m).expect (yCell c b) r = N := by
  unfold Schedule.expect Schedule.amountOf; rw [duties_y m c b r h, Finset.sum_singleton, amount_y]

theorem rest_w (b : Fin 2) (r : ℕ) (h : r < 8) : bigSep ((sched m).duties (wCell c b) r \ ∅) (fun d => (sched m).payload (wCell c b) r d) = wPay m c b r := by
  rw [Finset.sdiff_empty, duties_w m c b r h, bigSep_singleton, payload_w]
theorem rest_y (b : Fin 2) (r : ℕ) (h : 2 * r + b.val < 15) : bigSep ((sched m).duties (yCell c b) r \ ∅) (fun d => (sched m).payload (yCell c b) r d) = yPay c b := by
  rw [Finset.sdiff_empty, duties_y m c b r h, bigSep_singleton, payload_y]

end Sched

/-! ## What a device owes, and the order of waiting -/

/-- With the products for `l` still to send. -/
def owedR (c : Dev nD) : List (Fin 16) → CellTallies nD τ sig Unit
  | [] => 0
  | s :: l => owedR c l + tallyAt (recvCell (fwdD c s)) () N
/-- With the signals to `l` still to give, and every product to send. -/
def owedB (c : Dev nD) : List (Fin 16) → CellTallies nD τ sig Unit
  | [] => owedR c peers
  | s :: l => owedB c l + tallyAt (barCell (fwdD c s)) () 1
def O₀ (c : Dev nD) : CellTallies nD τ sig Unit := owedB c peers

def L (g : GSem nD τ sig) : Finset Unit := if g.1.2 = .tc then {()} else ∅
/-- Barrier cells before receive cells, both after everything else. -/
def lv (g : GSem nD τ sig) (_ : Unit) : ℕ := match use g.2 with
  | .bar => 1 | .recv => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem owedR_pos {c : Dev nD} {l : List (Fin 16)} {g : GSem nD τ sig} {u : Unit} (h : 0 < owedR c l g u) : ∃ e, g = recvCell e := by
  induction l with
  | nil => exact absurd h (Nat.lt_irrefl 0)
  | cons s l ih =>
    unfold owedR at h
    rw [Pi.add_apply, Finsupp.add_apply, tallyAt_apply] at h
    by_cases h' : g = recvCell (fwdD c s) ∧ u = ()
    · exact ⟨_, h'.1⟩
    · rw [if_neg h', Nat.add_zero] at h; exact ih h
theorem owedB_pos {c : Dev nD} {l : List (Fin 16)} {g : GSem nD τ sig} {u : Unit} (h : 0 < owedB c l g u) :
    (∃ e, g = recvCell e) ∨ ∃ e, g = barCell e := by
  induction l with
  | nil => exact .inl (owedR_pos h)
  | cons s l ih =>
    unfold owedB at h
    rw [Pi.add_apply, Finsupp.add_apply, tallyAt_apply] at h
    by_cases h' : g = barCell (fwdD c s) ∧ u = ()
    · exact .inr ⟨_, h'.1⟩
    · rw [if_neg h', Nat.add_zero] at h; exact ih h

theorem lv_recv (e : Dev nD) : lv (recvCell e) () = 2 := by unfold lv; rw [use_recv]
theorem lv_bar (e : Dev nD) : lv (barCell e) () = 1 := by unfold lv; rw [use_bar]

omit [FloatOps F] in
theorem mayWait_of (c : Dev nD) (sm : SemLoc sig) (n : ℕ) (hn : lv ((c : Thread nD τ), sm) () ≤ n) (O : CellTallies nD τ sig Unit)
    (hO : ∀ g u, 0 < O g u → (∃ e, g = recvCell e ∧ n < 2) ∨ ∃ e, g = barCell e ∧ n < 1) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rcases hO g u hg with ⟨e, rfl, _⟩ | ⟨e, rfl, _⟩ <;> exact Finset.mem_singleton_self _)
    (fun p hp => by rw [Finset.mem_singleton.mp hp]; exact hn)
    (fun g u hg => by
      rcases hO g u hg with ⟨e, rfl, h⟩ | ⟨e, rfl, h⟩
      · show _ < lv (recvCell e) (); rw [lv_recv]; exact h
      · show _ < lv (barCell e) (); rw [lv_bar]; exact h)

omit [FloatOps F] in
theorem mayWait_low (c : Dev nD) (sm : SemLoc sig) (h : lv ((c : Thread nD τ), sm) () = 0) (l : List (Fin 16)) :
    (levAts L lv : sProp 𝕄) ⊢ MayWait (c : Thread nD τ) sm () (owedR c l) :=
  mayWait_of c sm 0 (le_of_eq h) _ fun g u hg => .inl ((owedR_pos hg).imp fun e he => ⟨he, by decide⟩)
omit [FloatOps F] in
theorem mayWait_low₀ (c : Dev nD) (sm : SemLoc sig) (h : lv ((c : Thread nD τ), sm) () = 0) :
    (levAts L lv : sProp 𝕄) ⊢ MayWait (c : Thread nD τ) sm () (O₀ c) :=
  mayWait_of c sm 0 (le_of_eq h) _ fun g u hg => (owedB_pos hg).imp (fun ⟨e, he⟩ => ⟨e, he, by decide⟩) fun ⟨e, he⟩ => ⟨e, he, by decide⟩
omit [FloatOps F] in
theorem mayWait_bar (c : Dev nD) : (levAts L lv : sProp 𝕄) ⊢ MayWait (c : Thread nD τ) (.reg barS) () (owedR c peers) :=
  mayWait_of c _ 1 (le_of_eq (lv_bar c)) _ fun g u hg => .inl ((owedR_pos hg).imp fun e he => ⟨he, by decide⟩)

theorem lv_w (c : Dev nD) (b : Fin 2) : lv (wCell c b) () = 0 := by unfold lv; rw [use_w]
theorem lv_y (c : Dev nD) (b : Fin 2) : lv (yCell c b) () = 0 := by unfold lv; rw [use_y]

end Cert.KernelIdeal.Exchange
end
-- ==== Proof.KernelIdeal.Contents.lean ====
/- The contents: what a load from a slot reads, what a copy and a send leave behind, and how the slots and the
   row blocks make up their buffers. -/
module

public import proofs.«01_k».proof.Proof.KernelIdeal.Protocol
public import Idealize.ShloMosaic.Lib.Pipeline.Value
public import Idealize.ShloMosaic.Lib.ViewIndex

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Element sets -/

abbrev rowSet (d : Dev nD) : Finset S8192x256.Idx := (rowM d).view.set
abbrev wSet (b : Fin 2) : Finset S2x8192x256.Idx := (wSlot b).view.set
abbrev ySet (b : Fin 2) : Finset S2x512x256.Idx := (ySlot b).view.set

/-! ## Loads -/

abbrev wRect (b : Fin 2) : Rect S2x8192x256 := Rect.unit (s := S2x8192x256) ![b.val, 0, 0] S1x8192x256.size (wb_inb b)
abbrev yRect (b : Fin 2) : Rect S2x512x256 := Rect.unit (s := S2x512x256) ![b.val, 0, 0] S1x512x256.size (yb_inb b)
abbrev oRect (d : Dev nD) : Rect S8192x256 := Rect.unit (s := S8192x256) (k0_off4 d) S512x256.size (k0_off4_inb d)

theorem prodV_read (b : Fin 2) (x : Vec F S512x8192 .f32) (f : (cc0_scratch0 : Ref sig .tc).ty.Contents (Elt F)) :
    prodV x ((wbM.access (wRect b)).read (Elt F) f) = prod2 x ((wSlot b).view.read (Elt F) f) := rfl
theorem prodB_read (b : Fin 2) (x : Vec F S512x8192 .f32) (f : (cc0_scratch0 : Ref sig .tc).ty.Contents (Elt F)) :
    prodB x ((wbM.access (wRect b)).read (Elt F) f)
      = shapeCast S1x512x256 (prod2 x ((wSlot b).view.read (Elt F) f)) shapeCasts_S512x256_S1x512x256 := rfl

theorem set_wSlot (b : Fin 2) : (wSlot b).view.set = (wbM.access (wRect b)).set := View.set_reshape _ _
theorem set_ySlot (b : Fin 2) : (ySlot b).view.set = (ybM.access (yRect b)).set := View.set_reshape _ _

/-! ## The column blocks -/

theorem cols_read (d e : Dev nD) (off : Fin 2 → ℕ) (h) (ho : off = ![0, 256 * e.val]) :
    (wCols off h).view.read (Elt F) (wAt m d) = wBlk m d e := by subst ho; rfl

/-! ## The product slots -/

/-- A product slot just stored reads as the product. -/
theorem read_stored (b : Fin 2) (f : (cc0_scratch1 : Ref sig .tc).ty.Contents (Elt F)) (p : FVec F S512x256 .f32) :
    (ySlot b).view.read (Elt F) ((ybM.access (yRect b)).write (Elt F) f (shapeCast S1x512x256 p shapeCasts_S512x256_S1x512x256) Finset.univ) = p := by
  refine (show _ = shapeCast S512x256 ((ybM.access (yRect b)).read (Elt F) ((ybM.access (yRect b)).write (Elt F) f _ Finset.univ))
    shapeCasts_S1x512x256_S512x256 from rfl).trans ?_
  rw [View.read_write_univ]
  exact shapeCast_shapeCast _ _ _

/-! ## The row blocks -/

theorem off4_off5 (d : Dev nD) : k0_off4 d = k0_off5 d := (k0_off4_eq d).trans (k0_off5_eq d).symm
theorem access_row (d : Dev nD) : oM.access (oRect d) = (rowM d).view := by
  have (off off' : Fin 2 → ℕ) (h) (h') (e : off = off') :
      oM.access (Rect.unit (s := S8192x256) off S512x256.size h) = (oRows off' h').view := by subst e; rfl
  exact this _ _ _ _ (off4_off5 d)

theorem mem_row (d : Dev nD) (i : S8192x256.Idx) : i ∈ (rowM d).view.set ↔ rowOf i = d := by
  rw [show (rowM d).view.set = (Rect.unit (s := S8192x256) (k0_off5 d) S512x256.size (k0_off5_inb d)).set from View.set_slice_whole _ _,
    Rect.mem_set_unit]
  rw [show (∀ a : Fin 2, k0_off5 d a ≤ i a ∧ (i a : ℕ) < k0_off5 d a + S512x256.size a)
    ↔ (512 * d.val ≤ (i 0).val ∧ (i 0).val < 512 * d.val + 512) ∧ (0 ≤ (i 1).val ∧ (i 1).val < 0 + 256) from by
      rw [k0_off5_eq]; exact Fin.forall_fin_two]
  have h1 : (i 1).val < 256 := (i 1).isLt
  constructor
  · intro h; exact Fin.ext (by show (i 0).val / 512 = d.val; omega)
  · intro h; have : (i 0).val / 512 = d.val := congrArg Fin.val h; omega

theorem row_emb_of (d : Dev nD) (j : S512x256.Idx) :
    rowOf ((rowM d).view.emb j) = d ∧ inRow ((rowM d).view.emb j) = j := by
  have e0 : ((rowM d).view.emb j 0).val = 512 * d.val + (j 0).val := by
    have : ((rowM d).view.emb j 0).val = k0_off5 d 0 + (j 0).val := by
      show k0_off5 d 0 + 1 * (j 0).val = _; rw [Nat.one_mul]
    rw [this, k0_off5_eq]; rfl
  have e1 : ((rowM d).view.emb j 1).val = (j 1).val := by
    have : ((rowM d).view.emb j 1).val = k0_off5 d 1 + (j 1).val := by
      show k0_off5 d 1 + 1 * (j 1).val = _; rw [Nat.one_mul]
    rw [this, k0_off5_eq]; exact Nat.zero_add _
  have h0 : (j 0).val < 512 := (j 0).isLt
  refine ⟨Fin.ext (by show ((rowM d).view.emb j 0).val / 512 = d.val; rw [e0]; omega), funext fun a => ?_⟩
  fin_cases a
  · exact Fin.ext (by show ((rowM d).view.emb j 0).val % 512 = (j 0).val; rw [e0]; omega)
  · exact Fin.ext e1

/-- A row block written with its product holds what the output holds there. -/
theorem row_written (d e : Dev nD) (f : (cc0_stg1_0 : Ref sig .tc).ty.Contents (Elt F)) :
    ∀ i ∈ (rowM d).view.set, (rowM d).view.write (Elt F) f (prod2 (xAt m d) (wBlk m d e)) Finset.univ i = outAt m e i := by
  intro i hi
  obtain ⟨j, -, rfl⟩ := Finset.mem_map.mp hi
  rw [View.write_emb_of_mem _ _ (Finset.mem_univ j)]
  unfold outAt
  rw [(row_emb_of d j).1, (row_emb_of d j).2]
  rfl

omit [FloatOps F] in
theorem rows_disjoint : ∀ d d' : Dev nD, d ≠ d' → Disjoint (rowM d).view.set (rowM d').view.set := by
  intro d d' h
  refine Finset.disjoint_left.mpr fun i hi hi' => h ?_
  exact ((mem_row d i).mp hi).symm.trans ((mem_row d' i).mp hi')
omit [FloatOps F] in
theorem rows_cover : Finset.univ.biUnion (fun d : Dev nD => rowSet d) = Finset.univ :=
  Finset.eq_univ_of_forall fun i => Finset.mem_biUnion.mpr ⟨rowOf i, Finset.mem_univ _, (mem_row _ i).mpr rfl⟩

/-- The output buffer is its sixteen row blocks. -/
theorem out_rows (e : Dev nD) (f : Buf (Elt F) ((e : Thread nD τ).loc cc0_stg1_0)) :
    (((e : Thread nD τ).loc cc0_stg1_0) ↦{fullShare} f : sProp 𝕄) = bigSep Finset.univ fun d : Dev nD => rowPts d e f :=
  Ring.pointsTo_blocks (ℓ := (e : Thread nD τ).loc cc0_stg1_0) (fun d : Dev nD => rowSet d) rows_disjoint rows_cover f

/-! ## The slots -/

theorem mem_wSlot (b : Fin 2) (i : S2x8192x256.Idx) : i ∈ (wSlot b).view.set ↔ i 0 = b := by
  rw [set_wSlot, show (wbM.access (wRect b)).set = (wRect b).set from View.set_slice_whole _ _, Rect.mem_set_unit]
  have h1 : (i 1).val < 8192 := (i 1).isLt
  have h2 : (i 2).val < 256 := (i 2).isLt
  constructor
  · intro h; have := h 0; exact Fin.ext (by
      have h3 : b.val ≤ (i 0).val ∧ (i 0).val < b.val + 1 := this
      omega)
  · intro h a
    fin_cases a
    · exact ⟨(congrArg Fin.val h).ge, by show (i 0).val < b.val + 1; rw [← h]; exact Nat.lt_succ_self _⟩
    · exact ⟨Nat.zero_le _, by show (i 1).val < 0 + 8192; omega⟩
    · exact ⟨Nat.zero_le _, by show (i 2).val < 0 + 256; omega⟩
theorem mem_ySlot (b : Fin 2) (i : S2x512x256.Idx) : i ∈ (ySlot b).view.set ↔ i 0 = b := by
  rw [set_ySlot, show (ybM.access (yRect b)).set = (yRect b).set from View.set_slice_whole _ _, Rect.mem_set_unit]
  have h1 : (i 1).val < 512 := (i 1).isLt
  have h2 : (i 2).val < 256 := (i 2).isLt
  constructor
  · intro h; have := h 0; exact Fin.ext (by
      have h3 : b.val ≤ (i 0).val ∧ (i 0).val < b.val + 1 := this
      omega)
  · intro h a
    fin_cases a
    · exact ⟨(congrArg Fin.val h).ge, by show (i 0).val < b.val + 1; rw [← h]; exact Nat.lt_succ_self _⟩
    · exact ⟨Nat.zero_le _, by show (i 1).val < 0 + 512; omega⟩
    · exact ⟨Nat.zero_le _, by show (i 2).val < 0 + 256; omega⟩

omit [FloatOps F] in
theorem wSlots_disjoint : ∀ b b' : Fin 2, b ≠ b' → Disjoint (wSlot b).view.set (wSlot b').view.set := fun b b' h =>
  Finset.disjoint_left.mpr fun i hi hi' => h (((mem_wSlot b i).mp hi).symm.trans ((mem_wSlot b' i).mp hi'))
omit [FloatOps F] in
theorem wSlots_cover : Finset.univ.biUnion (fun b : Fin 2 => wSet b) = Finset.univ :=
  Finset.eq_univ_of_forall fun i => Finset.mem_biUnion.mpr ⟨i 0, Finset.mem_univ _, (mem_wSlot _ i).mpr rfl⟩
omit [FloatOps F] in
theorem ySlots_disjoint : ∀ b b' : Fin 2, b ≠ b' → Disjoint (ySlot b).view.set (ySlot b').view.set := fun b b' h =>
  Finset.disjoint_left.mpr fun i hi hi' => h (((mem_ySlot b i).mp hi).symm.trans ((mem_ySlot b' i).mp hi'))
omit [FloatOps F] in
theorem ySlots_cover : Finset.univ.biUnion (fun b : Fin 2 => ySet b) = Finset.univ :=
  Finset.eq_univ_of_forall fun i => Finset.mem_biUnion.mpr ⟨i 0, Finset.mem_univ _, (mem_ySlot _ i).mpr rfl⟩

theorem w_slots (c : Dev nD) (f : Buf (Elt F) ((c : Thread nD τ).loc cc0_scratch0)) :
    (((c : Thread nD τ).loc cc0_scratch0) ↦{fullShare} f : sProp 𝕄) = iprop(wPts c 0 f ∗ wPts c 1 f) :=
  (Ring.pointsTo_blocks (ℓ := (c : Thread nD τ).loc cc0_scratch0) (fun b : Fin 2 => wSet b) wSlots_disjoint wSlots_cover f).trans
    (bigSep_univ_two _)
theorem y_slots (c : Dev nD) (f : Buf (Elt F) ((c : Thread nD τ).loc cc0_scratch1)) :
    (((c : Thread nD τ).loc cc0_scratch1) ↦{fullShare} f : sProp 𝕄) = iprop(yPts c 0 f ∗ yPts c 1 f) :=
  (Ring.pointsTo_blocks (ℓ := (c : Thread nD τ).loc cc0_scratch1) (fun b : Fin 2 => ySet b) ySlots_disjoint ySlots_cover f).trans
    (bigSep_univ_two _)

/-- The slots at any contents are the buffer at some contents. -/
theorem w_join (c : Dev nD) : iprop((∃ f, wPts c 0 f) ∗ ∃ f, wPts c 1 f)
    ⊢ (iprop(∃ f : Buf (Elt F) ((c : Thread nD τ).loc cc0_scratch0), ((c : Thread nD τ).loc cc0_scratch0) ↦{fullShare} f) : sProp 𝕄) := by
  unfold wPts
  iintro ⟨⟨%f, H0⟩, H1⟩
  iapply (Ring.pointsTo_blocks_join_exists (ℓ := (c : Thread nD τ).loc cc0_scratch0) (fun b : Fin 2 => wSet b) wSlots_disjoint wSlots_cover f)
  rw [bigSep_univ_two]
  isplitl [H0]; · iexists f; iexact H0
  iexact H1
theorem y_join (c : Dev nD) : iprop((∃ f, yPts c 0 f) ∗ ∃ f, yPts c 1 f)
    ⊢ (iprop(∃ f : Buf (Elt F) ((c : Thread nD τ).loc cc0_scratch1), ((c : Thread nD τ).loc cc0_scratch1) ↦{fullShare} f) : sProp 𝕄) := by
  unfold yPts
  iintro ⟨⟨%f, H0⟩, H1⟩
  iapply (Ring.pointsTo_blocks_join_exists (ℓ := (c : Thread nD τ).loc cc0_scratch1) (fun b : Fin 2 => ySet b) ySlots_disjoint ySlots_cover f)
  rw [bigSep_univ_two]
  isplitl [H0]; · iexists f; iexact H0
  iexact H1

/-- The whole of `w` is the two slots' shares of it. -/
theorem src_split (c : Dev nD) : (((c : Thread nD τ).loc main_arg1) ↦{fullShare} wAt m c : sProp 𝕄) ⊣⊢ iprop(srcPts m c 0 ∗ srcPts m c 1) :=
  pointsTo_share (PosShare.mem_left_op_right fullShare)

end Cert.KernelIdeal.Exchange
end
-- ==== Proof.KernelIdeal.Ops.lean ====
/- One rule per operation of the body: what it takes and what it gives back, in the exchange's own terms. -/
module

public import proofs.«01_k».proof.Proof.KernelIdeal.Contents

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "PP" => Prog (TpuEff nD τ sig (Elt F) Λ₀ Proc.tc)

variable (m : (ℓ : Loc nD τ sig) → Buf (Elt F) ℓ)

abbrev 𝒱₀ : Variants := Variants.none

/-- A program run on device `c`. -/
abbrev WP (c : Dev nD) {α : Type} (p : PP α) (K : α → sProp 𝕄) : sProp 𝕄 :=
  wp frame (wpE (defs₀ (F := F)) 𝒱₀ (c : Thread nD τ) none) Set.univ p K

/-! ## What is known throughout -/

/-- Every cell's invariant, that every cell has begun, and the order of waiting. -/
def recs (κ : Dev nD × Fin 6 → ℕ) : sProp 𝕄 :=
  iprop((bigSep Finset.univ fun ck : Dev nD × Fin 6 => cellInv ER (sched m) (κ ck) (kcell ck))
    ∗ (bigSep Finset.univ fun ck : Dev nD × Fin 6 => reached ER (kcell ck) 0) ∗ levAts L lv)
instance recs_persistent (κ : Dev nD × Fin 6 → ℕ) : BI.Persistent (recs m κ) := by unfold recs; infer_instance

variable (κ : Dev nD × Fin 6 → ℕ)

theorem recs_inv (ck : Dev nD × Fin 6) : recs m κ ⊢ cellInv ER (sched m) (κ ck) (kcell ck) := by
  have h : (bigSep Finset.univ fun ck : Dev nD × Fin 6 => (cellInv ER (sched m) (κ ck) (kcell ck) : sProp 𝕄)) ⊢ cellInv ER (sched m) (κ ck) (kcell ck) :=
    bigSep_elim (Finset.mem_univ ck)
  unfold recs
  iintro ⟨#H, -, -⟩
  iapply h; iexact H
theorem recs_begun (ck : Dev nD × Fin 6) : recs m κ ⊢ reached ER (kcell ck) 0 := by
  have h : (bigSep Finset.univ fun ck : Dev nD × Fin 6 => (reached ER (kcell ck) 0 : sProp 𝕄)) ⊢ reached ER (kcell ck) 0 :=
    bigSep_elim (Finset.mem_univ ck)
  unfold recs
  iintro ⟨-, #H, -⟩
  iapply h; iexact H
theorem recs_low (c : Dev nD) (sm : SemLoc sig) (h : lv ((c : Thread nD τ), sm) () = 0) (l : List (Fin 16)) :
    recs m κ ⊢ MayWait (c : Thread nD τ) sm () (owedR c l) := by
  unfold recs
  iintro ⟨-, -, #H⟩
  iapply (mayWait_low (F := F) c sm h l); iexact H
theorem recs_w (c : Dev nD) (b : Fin 2) : recs m κ ⊢ cellInv ER (sched m) (κ (c, kw b)) (wCell c b) := by
  rw [← kcell_w]; exact recs_inv m κ _
theorem recs_y (c : Dev nD) (b : Fin 2) : recs m κ ⊢ cellInv ER (sched m) (κ (c, ky b)) (yCell c b) := by
  rw [← kcell_y]; exact recs_inv m κ _

/-! ## The states of the slots -/

/-- What device `c` owes, whatever it waited for. -/
def owing (c : Dev nD) (O : CellTallies nD τ sig Unit) : sProp 𝕄 := iprop(∃ W, owes (c : Thread nD τ) O W)
/-- A column block slot free for its use `r`, and with the copy of that use under way. -/
def wIdle (c : Dev nD) (b : Fin 2) (r : ℕ) : sProp 𝕄 :=
  iprop((∃ f, wPts c b f) ∗ srcPts m c b ∗ atPos ER (wCell c b) r ∅ 0 ∗ reached ER (wCell c b) r)
def wBusy (c : Dev nD) (b : Fin 2) (r : ℕ) : sProp 𝕄 := iprop(cred (tallyAt (wCell c b) () Nw) ∗ atPos ER (wCell c b) r ∅ 0)
abbrev wTok (c : Dev nD) (b : Fin 2) (r : ℕ) : sProp 𝕄 := dutyTok ER (wCell c b) r c
/-- A product slot likewise. -/
def yIdle (c : Dev nD) (b : Fin 2) (r : ℕ) : sProp 𝕄 :=
  iprop((∃ f, yPts c b f) ∗ atPos ER (yCell c b) r ∅ 0 ∗ reached ER (yCell c b) r)
def yBusy (c : Dev nD) (b : Fin 2) (r : ℕ) : sProp 𝕄 := iprop(cred (tallyAt (yCell c b) () N) ∗ atPos ER (yCell c b) r ∅ 0)
abbrev yTok (c : Dev nD) (b : Fin 2) (r : ℕ) : sProp 𝕄 := dutyTok ER (yCell c b) r c
/-- The staged rows of `x`. -/
def xPts (c : Dev nD) : sProp 𝕄 := ((c : Thread nD τ).loc cc0_stg0_0) ↦{fullShare} xAt m c

/-! ## The copies of column blocks -/

theorem wp_startW (c : Dev nD) (b : Fin 2) (r : ℕ) (hr : r < 8) (off : Fin 2 → ℕ) (h)
    (ho : off = ![0, 256 * (tgt c (2 * r + b.val)).val]) (K : PUnit → sProp 𝕄) :
    iprop(recs m κ ∗ wIdle m c b r ∗ wTok c b r) ⊢ iprop((wBusy c b r -∗ K ⟨⟩) -∗ WP c (startW off h b) K) := by
  unfold wIdle wBusy startW Prog.lift
  iintro ⟨#HR, ⟨⟨%f, Hw⟩, Hsrc, Hat, #Hre⟩, Htok⟩ HK
  unfold srcPts wPts
  ihave Hs := (pointsTo_split_subset (Finset.subset_univ (wCols off h).view.set)).1 $$ Hsrc
  icases Hs with ⟨Hsrc, Hrest⟩
  iapply (Rounds.wp_copy 𝒱₀ ER (sched m) (c : Thread nD τ) none (dst := wSlot b) (sem := .dma (wSem b)) (r := r) (d := c) (κ := κ (c, kw b))
    (R := iprop(((wSlot b).view.loc (c : Thread nD τ) ↦[(wSlot b).view.set]{fullShare} ((wSlot b).view.write (Elt F) f ((wCols off h).view.read (Elt F) (wAt m c)) Finset.univ))
      ∗ (((c : Thread nD τ).loc main_arg1) ↦[Finset.univ \ (wCols off h).view.set]{half b} wAt m c)))
    (fs := wAt m c) (q := half b)
    (by rw [duties_w m c b r hr]; exact Finset.mem_singleton_self _) () Nw (w_credit b) (amount_w m c b r c)
    (by
      rw [payload_w]; unfold wPay wHas wPts srcPts
      iintro ⟨⟨H1, H2⟩, H3⟩
      isplitl [H1]
      · iexists ((wSlot b).view.write (Elt F) f ((wCols off h).view.read (Elt F) (wAt m c)) Finset.univ)
        isplitr
        · ipureintro
          exact (View.read_write_univ _ _).trans (cols_read m c _ off h ho)
        · iexact H1
      · iapply (pointsTo_split_subset (Finset.subset_univ (wCols off h).view.set)).2
        isplitl [H3] <;> iassumption)) $$ [Hw Hsrc Hrest Htok]
  · isplitr; · iapply (recs_w m κ c b); iexact HR
    isplitl [Hsrc]; · iexact Hsrc
    isplitl [Hw Hrest]
    · iapply (writeUpdate_frame (c : Thread nD τ))
      isplitl [Hw]
      · iapply (pointsTo_writeUpdate (c : Thread nD τ) (v := (wSlot b).view) subset_rfl); iexact Hw
      · iexact Hrest
    isplitl [Htok]; · iexact Htok
    iexact Hre
  iintro Hc
  rw [wp_ret]; imodintro
  iapply HK
  isplitl [Hc] <;> iassumption

theorem wp_waitW (c : Dev nD) (s : Fin 16) (b : Fin 2) (r : ℕ) (hr : r < 8) (l : List (Fin 16)) (K : PUnit → sProp 𝕄) :
    iprop(recs m κ ∗ wBusy c b r ∗ owing c (owedR c l))
      ⊢ iprop(((owing c (owedR c l) ∗ wHas m c b (tgt c (2 * r + b.val)) ∗ srcPts m c b ∗ atPos ER (wCell c b) (r + 1) ∅ 0 ∗ reached ER (wCell c b) (r + 1))
        -∗ K ⟨⟩) -∗ WP c (waitW c s b) K) := by
  have hk : 0 + (wSlot b).view.dmaCredit = (sched m).expect (wCell c b) r := by
    rw [Nat.zero_add, expect_w m c b r hr]; exact w_credit b
  unfold wBusy waitW owing Prog.lift
  iintro ⟨#HR, ⟨Hc, Hat⟩, ⟨%W, HO⟩⟩ HK
  iapply (Rounds.wp_wait_rest_token 𝒱₀ ER (sched m) (c : Thread nD τ) none (κ := κ (c, kw b))
      (wpE_waitDma2_eq 𝒱₀ (c : Thread nD τ) none Set.univ) (Set.mem_univ _) () (O := owedR c l) (W := W) (R := r) (m := 0) (T := ∅) hk) $$ [Hc HO Hat]
  · isplitr; · iapply (recs_w m κ c b); iexact HR
    isplitl [Hc]; · iexact Hc
    isplitl [HO]; · iexact HO
    isplitr
    · iapply (recs_low m κ c (.dma (wSem b)) (lv_w c b) l); iexact HR
    iexact Hat
  iintro ⟨HO, Hat, Hre, Hpay⟩
  rw [wp_ret]; imodintro
  ihave Hp := (Entails.of_eq (rest_w m c b r hr)) $$ Hpay
  unfold wPay
  icases Hp with ⟨Hh, Hs⟩
  iapply HK
  isplitl [HO]; · iexists _; iexact HO
  isplitl [Hh]; · iexact Hh
  isplitl [Hs]; · iexact Hs
  isplitl [Hat] <;> iassumption

/-! ## Loads and stores -/

theorem hz : (![0, 0] : Fin 2 → Nat) = fun _ => 0 := funext fun a => by fin_cases a <;> rfl

theorem wp_loadX (c : Dev nD) (K : Vec F S512x8192 .f32 → sProp 𝕄) :
    xPts m c ⊢ iprop((xPts m c -∗ K (xAt m c)) -∗ WP c loadX K) := by
  unfold xPts loadX Prog.lift
  iintro Hx HK
  iapply (wp_load 𝒱₀ (c : Thread nD τ) none Set.univ (m := xM) (Finset.subset_univ _)) $$ Hx
  iintro Hx
  have hx : View.readAt (Elt F) xM.view (Rect.unit (s := S512x8192) ![0, 0] S512x8192.size inb_S512x8192_S512x8192_0_0).toLoadRect (xAt m c) = xAt m c :=
    Memref.readAt_unit_zero (Elt F) cc0_stg0_0 hz _ _
  rw [wp_ret, hx]
  imodintro
  iapply HK; iexact Hx

theorem wp_loadW (c : Dev nD) (b : Fin 2) (f) (K : Vec F S1x8192x256 .f32 → sProp 𝕄) :
    wPts c b f ⊢ iprop((wPts c b f -∗ K ((wbM.access (wRect b)).read (Elt F) f)) -∗ WP c (loadW b) K) := by
  unfold wPts loadW Prog.lift
  iintro Hx HK
  iapply (wp_load_rect 𝒱₀ (c : Thread nD τ) none Set.univ (m := wbM) (r := wRect b) (set_wSlot b).ge) $$ Hx
  iintro Hx
  rw [wp_ret]; imodintro
  iapply HK; iexact Hx

theorem wp_loadY (c : Dev nD) (b : Fin 2) (f) (K : Vec F S1x512x256 .f32 → sProp 𝕄) :
    yPts c b f ⊢ iprop((∀ v, yPts c b f -∗ K v) -∗ WP c (loadY b) K) := by
  unfold yPts loadY Prog.lift
  iintro Hx HK
  iapply (wp_load_rect 𝒱₀ (c : Thread nD τ) none Set.univ (m := ybM) (r := yRect b) (set_ySlot b).ge) $$ Hx
  iintro Hx
  rw [wp_ret]; imodintro
  iapply HK; iexact Hx

theorem wp_storeY (c : Dev nD) (b : Fin 2) (f) (p : FVec F S512x256 .f32) (v : FVec F S1x512x256 .f32)
    (hv : v = shapeCast S1x512x256 p shapeCasts_S512x256_S1x512x256) (K : PUnit → sProp 𝕄) :
    yPts c b f ⊢ iprop(((∃ f, ⌜(ySlot b).view.read (Elt F) f = p⌝ ∗ yPts c b f) -∗ K ⟨⟩) -∗ WP c (storeY b v) K) := by
  subst hv
  unfold yPts storeY Prog.lift
  iintro Hx HK
  iapply (wp_store 𝒱₀ (c : Thread nD τ) none Set.univ (m := ybM) (r := yRect b) (Mk := Finset.univ) (set_ySlot b).ge) $$ Hx
  iintro Hx
  rw [wp_ret]; imodintro
  iapply HK; iexists _
  isplitr
  · ipureintro; exact read_stored b f p
  iexact Hx

theorem access_row_set (d : Dev nD) : ((oM.access (oRect d)).set : Finset S8192x256.Idx) = (rowM d).view.set := by
  have (off off' : Fin 2 → ℕ) (h) (h') (e : off = off') :
      ((oM.access (Rect.unit (s := S8192x256) off S512x256.size h)).set : Finset S8192x256.Idx) = (oRows off' h').view.set := by subst e; rfl
  exact this _ _ _ _ (off4_off5 d)
theorem access_row_write (d : Dev nD) (f : (cc0_stg1_0 : Ref sig .tc).ty.Contents (Elt F)) (v : FVec F S512x256 .f32) :
    ((oM.access (oRect d)).write (Elt F) f v Finset.univ : (cc0_stg1_0 : Ref sig .tc).ty.Contents (Elt F)) = (rowM d).view.write (Elt F) f v Finset.univ := by
  have (off off' : Fin 2 → ℕ) (h) (h') (e : off = off') :
      ((oM.access (Rect.unit (s := S8192x256) off S512x256.size h)).write (Elt F) f v Finset.univ : (cc0_stg1_0 : Ref sig .tc).ty.Contents (Elt F))
        = (oRows off' h').view.write (Elt F) f v Finset.univ := by subst e; rfl
  exact this _ _ _ _ (off4_off5 d)

theorem wp_loadO (c : Dev nD) (f) (K : Vec F S512x256 .f32 → sProp 𝕄) :
    rowPts c c f ⊢ iprop((∀ v, rowPts c c f -∗ K v) -∗ WP c (loadO c) K) := by
  unfold rowPts loadO Prog.lift
  iintro Hx HK
  iapply (wp_load_rect 𝒱₀ (c : Thread nD τ) none Set.univ (m := oM) (r := oRect c) (S := (rowM c).view.set) (access_row_set c).le) $$ Hx
  iintro Hx
  rw [wp_ret]; imodintro
  iapply HK; iexact Hx

/-- The product that stays is stored in the device's own row block. -/
theorem wp_storeO (c : Dev nD) (f) (v : FVec F S512x256 .f32) (hv : v = prod2 (xAt m c) (wBlk m c c)) (K : PUnit → sProp 𝕄) :
    rowPts c c f ⊢ iprop((rowPts c c (outAt m c) -∗ K ⟨⟩) -∗ WP c (storeO c v) K) := by
  subst hv
  unfold rowPts storeO Prog.lift
  iintro Hx HK
  iapply (wp_store 𝒱₀ (c : Thread nD τ) none Set.univ (m := oM) (r := oRect c) (Mk := Finset.univ) (S := (rowM c).view.set) (access_row_set c).le) $$ Hx
  iintro Hx
  rw [wp_ret]; imodintro
  iapply HK
  iapply (Entails.of_eq (pointsTo_congr (ℓ := (c : Thread nD τ).loc cc0_stg1_0) (row_written m c c f)))
  iapply (Entails.of_eq (congrArg (fun g : Buf (Elt F) ((c : Thread nD τ).loc cc0_stg1_0) =>
    (((c : Thread nD τ).loc cc0_stg1_0) ↦[(rowM c).view.set]{fullShare} g : sProp 𝕄)) (access_row_write c f (prod2 (xAt m c) (wBlk m c c)))))
  iexact Hx

/-! ## The sends -/

theorem fwd_tgt (c : Dev nD) (s : Fin 16) : fwdD c s = tgt c s.val := Fin.ext (fwdW_eq c s)
theorem fwd_ne_self : ∀ (c : Dev nD) (s : Fin 16), s ≠ 0 → fwdD c s ≠ c := by decide +kernel

theorem wp_waitS (c : Dev nD) (b : Fin 2) (r : ℕ) (hr : 2 * r + b.val < 15) (l : List (Fin 16)) (K : PUnit → sProp 𝕄) :
    iprop(recs m κ ∗ yBusy c b r ∗ owing c (owedR c l))
      ⊢ iprop(((owing c (owedR c l) ∗ yIdle c b (r + 1)) -∗ K ⟨⟩) -∗ WP c (waitS c b) K) := by
  have hk : 0 + (ySlot b).view.dmaCredit = (sched m).expect (yCell c b) r := by
    rw [Nat.zero_add, expect_y m c b r hr]; exact y_credit b
  unfold yBusy yIdle waitS owing Prog.lift
  iintro ⟨#HR, ⟨Hc, Hat⟩, ⟨%W, HO⟩⟩ HK
  iapply (Rounds.wp_wait_rest_token 𝒱₀ ER (sched m) (c : Thread nD τ) none (κ := κ (c, ky b))
      (wpE_waitDma2_eq 𝒱₀ (c : Thread nD τ) none Set.univ) (Set.mem_univ _) () (O := owedR c l) (W := W) (R := r) (m := 0) (T := ∅) hk) $$ [Hc HO Hat]
  · isplitr; · iapply (recs_y m κ c b); iexact HR
    isplitl [Hc]; · iexact Hc
    isplitl [HO]; · iexact HO
    isplitr
    · iapply (recs_low m κ c (.dma (sSem b)) (lv_y c b) l); iexact HR
    iexact Hat
  iintro ⟨HO, Hat, Hre, Hpay⟩
  rw [wp_ret]; imodintro
  ihave Hp := (Entails.of_eq (rest_y m c b r hr)) $$ Hpay
  unfold yPay
  iapply HK
  isplitl [HO]; · iexists _; iexact HO
  isplitl [Hp]; · iexact Hp
  isplitl [Hat] <;> iassumption

/-- A product sent: the slot is lent until the send's wait, the peer's row block is handed over written. -/
theorem wp_sendY (c : Dev nD) (s : Fin 16) (hs : s ≠ 0) (b : Fin 2) (r : ℕ) (hr : 2 * r + b.val < 15) (l : List (Fin 16)) (f)
    (hf : (ySlot b).view.read (Elt F) f = prod2 (xAt m c) (wBlk m c (fwdD c s))) (K : PUnit → sProp 𝕄) :
    iprop(recs m κ ∗ yPts c b f ∗ atPos ER (yCell c b) r ∅ 0 ∗ reached ER (yCell c b) r ∗ yTok c b r
        ∗ dutyTok ER (recvCell (fwdD c s)) 0 c ∗ (∃ g, rowPts c (fwdD c s) g) ∗ owing c (owedR c (s :: l)))
      ⊢ iprop(((yBusy c b r ∗ owing c (owedR c l)) -∗ K ⟨⟩) -∗ WP c (sendY c s b) K) := by
  unfold yBusy sendY owing Prog.lift yPts rowPts
  iintro ⟨#HR, Hy, Hat, #Hre, Hty, Htr, ⟨%g, Hrow⟩, ⟨%W, HO⟩⟩ HK
  iapply (Rounds.wp_send_pointsTo 𝒱₀ ER (sched m) (c : Thread nD τ) none (c' := (fwdD c s : Thread nD τ)) (dst := rowM c) (sem := .dma rSem) (κ₁ := κ (c, ky b)) (κ₂ := κ (fwdD c s, 1))
    (r₁ := r) (r₂ := 0) (d₁ := c) (d₂ := c) (fd := g)
    (by rw [duties_y m c b r hr]; exact Finset.mem_singleton_self _)
    (by rw [duties_recv]; exact Finset.mem_erase.mpr ⟨(fwd_ne_self c s hs).symm, Finset.mem_univ _⟩)
    () () N (row_credit _ _) (amount_y m c b r c) (amount_recv m (fwdD c s) 0 c) (owedR c l) rfl (W := W)
    (by rw [payload_y]; unfold yPay yPts; iintro H; iexists f; iexact H)
    (by
      rw [payload_recv, hf]; unfold recvPay rowPts
      exact Entails.of_eq (pointsTo_congr (ℓ := (fwdD c s : Thread nD τ).loc cc0_stg1_0) (row_written m c (fwdD c s) g)))) $$ [Hy Hty Htr Hrow HO]
  · isplitr; · iapply (recs_y m κ c b); iexact HR
    isplitr; · iapply (recs_inv m κ (fwdD c s, 1)); iexact HR
    isplitl [Hy]; · iexact Hy
    isplitl [Hrow]; · iexact Hrow
    isplitl [HO]; · iexact HO
    isplitl [Hty]; · iexact Hty
    isplitr; · iexact Hre
    isplitl [Htr]; · iexact Htr
    iapply (recs_begun m κ (fwdD c s, 1)); iexact HR
  iintro ⟨Hc, HO⟩
  rw [wp_ret]; imodintro
  iapply HK
  isplitl [Hc Hat]
  · isplitl [Hc] <;> iassumption
  iexists _; iexact HO

end Cert.KernelIdeal.Exchange
end
-- ==== Proof.KernelIdeal.Work.lean ====
/- The body of the exchange at one device `c`: the steps, the sends, the waits, as one run. -/
module

public import proofs.«01_k».proof.Proof.KernelIdeal.Ops

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
local notation "PP" => Prog (TpuEff nD τ sig (Elt F) Λ₀ Proc.tc)

variable (m : (ℓ : Loc nD τ sig) → Buf (Elt F) ℓ) (κ : Dev nD × Fin 6 → ℕ)

/-! ## One sending step -/

/-- The product slot before a step: sent before and to be waited for, or not used yet. -/
def yPrev (c : Dev nD) (b : Fin 2) (r : ℕ) (old : Bool) : sProp 𝕄 := if old then yBusy c b (r - 1) else yIdle c b r

theorem wp_yReady (c : Dev nD) (b : Fin 2) (r : ℕ) (old : Bool) (hr : 2 * r + b.val < 15) (ho : old = true → 0 < r) (l : List (Fin 16)) (K : PUnit → sProp 𝕄) :
    iprop(recs m κ ∗ yPrev c b r old ∗ owing c (owedR c l))
      ⊢ iprop(((owing c (owedR c l) ∗ yIdle c b r) -∗ K ⟨⟩) -∗ WP c (if old = true then waitS c b else pure ⟨⟩) K) := by
  cases old with
  | true =>
    have h := wp_waitS m κ c b (r - 1) (by omega) l K
    rw [Nat.sub_add_cancel (ho rfl)] at h
    exact h
  | false =>
    iintro ⟨#HR, Hy, HO⟩ HK
    rw [if_neg (by decide), Prog.pure_eq_ret]; unfold WP; rw [wp_ret]
    imodintro
    iapply HK
    isplitl [HO]; · iexact HO
    iapply (show (yPrev c b r false : sProp 𝕄) ⊢ yIdle c b r from Entails.of_eq rfl); iexact Hy

/-- What a step sends with: its product slot's token, the peer's receive token, and the peer's row block. -/
def sendTodo (c : Dev nD) (s : Fin 16) : sProp 𝕄 :=
  iprop(yTok c (par (s.val + 1)) ((s.val - 1) / 2) ∗ dutyTok ER (recvCell (fwdD c s)) 0 c ∗ ∃ f, rowPts c (fwdD c s) f)

theorem tgt_step (c : Dev nD) (s : Fin 16) : tgt c (2 * (s.val / 2) + (par s.val).val) = fwdD c s := by
  rw [fwd_tgt]; show tgt c (2 * (s.val / 2) + s.val % 2) = _; rw [Nat.div_add_mod]
theorem y_step (s : Fin 16) (hs : s ≠ 0) : 2 * ((s.val - 1) / 2) + (par (s.val + 1)).val < 15 := by
  revert s; decide

/-- A step without the copy it starts, its optional wait as an operation of its own. -/
theorem step_eq (c : Dev nD) (s : Fin 16) (old : Bool) : step (F := F) c s false old =
    (waitW c s (par s.val) >>= fun _ => loadX >>= fun x => loadW (par s.val) >>= fun w =>
      (if old = true then waitS c (par (s.val + 1)) else pure ⟨⟩) >>= fun _ => loadY (par (s.val + 1)) >>= fun _ =>
      storeY (par (s.val + 1)) (prodB x w) >>= fun _ => sendY c s (par (s.val + 1))) := by
  cases old <;> rfl

/-- A step without the copy it starts. -/
theorem wp_work (c : Dev nD) (s : Fin 16) (hs : s ≠ 0) (old : Bool) (ho : old = true → 2 < s.val) (l : List (Fin 16)) (K : PUnit → sProp 𝕄) :
    iprop(recs m κ ∗ wBusy c (par s.val) (s.val / 2) ∗ yPrev c (par (s.val + 1)) ((s.val - 1) / 2) old ∗ sendTodo c s
        ∗ owing c (owedR c (s :: l)) ∗ xPts m c)
      ⊢ iprop(((wIdle m c (par s.val) (s.val / 2 + 1) ∗ yBusy c (par (s.val + 1)) ((s.val - 1) / 2) ∗ owing c (owedR c l) ∗ xPts m c) -∗ K ⟨⟩)
          -∗ WP c (step c s false old) K) := by
  unfold sendTodo
  iintro ⟨#HR, Hw, Hy, ⟨Hty, Htr, Hrow⟩, HO, Hx⟩ HK
  rw [step_eq]; simp only [wp_bind]
  iapply (wp_waitW m κ c s (par s.val) (s.val / 2) (by have := s.isLt; omega) (s :: l)) $$ [Hw HO]
  · isplitr; · iexact HR
    isplitl [Hw] <;> iassumption
  rw [tgt_step]
  unfold wHas
  iintro ⟨HO, ⟨%f, %hf, Hw⟩, Hsrc, HatW, HreW⟩
  iapply (wp_loadX m c) $$ Hx
  iintro Hx
  iapply (wp_loadW c (par s.val) f) $$ Hw
  iintro Hw
  iapply (wp_yReady m κ c (par (s.val + 1)) ((s.val - 1) / 2) old (y_step s hs) (fun h => by have := ho h; omega) (s :: l)) $$ [Hy HO]
  · isplitr; · iexact HR
    isplitl [Hy] <;> iassumption
  unfold yIdle
  iintro ⟨HO, ⟨%g, Hy⟩, HatY, HreY⟩
  iapply (wp_loadY c (par (s.val + 1)) g) $$ Hy
  iintro %v Hy
  iapply (wp_storeY c (par (s.val + 1)) g (prod2 (xAt m c) (wBlk m c (fwdD c s))) _ (by rw [prodB_read, hf])) $$ Hy
  iintro ⟨%h, %hh, Hy⟩
  iapply (wp_sendY m κ c s hs (par (s.val + 1)) ((s.val - 1) / 2) (y_step s hs) l h hh) $$ [Hy HatY HreY Hty Htr Hrow HO]
  · isplitr; · iexact HR
    isplitl [Hy]; · iexact Hy
    isplitl [HatY]; · iexact HatY
    isplitl [HreY]; · iexact HreY
    isplitl [Hty]; · iexact Hty
    isplitl [Htr]; · iexact Htr
    isplitl [Hrow] <;> iassumption
  iintro ⟨Hy, HO⟩
  iapply HK
  unfold wIdle
  isplitl [Hw Hsrc HatW HreW]
  · isplitl [Hw]; · iexists f; iexact Hw
    isplitl [Hsrc]; · iexact Hsrc
    isplitl [HatW] <;> iassumption
  isplitl [Hy]; · iexact Hy
  isplitl [HO] <;> iassumption

theorem next_step (c : Dev nD) (s : Fin 16) (h : s.val < 15) :
    k0_off2 c (BitVec.ofNat 32 s.val) = ![0, 256 * (tgt c (2 * ((s.val + 1) / 2) + (par (s.val + 1)).val)).val] := by
  have e : tgt c (2 * ((s.val + 1) / 2) + (par (s.val + 1)).val) = tgt c (s.val + 1) := by
    show tgt c (2 * ((s.val + 1) / 2) + (s.val + 1) % 2) = _; rw [Nat.div_add_mod]
  rw [e]
  exact k0_off2_eq c ⟨s.val, h⟩

/-- A step that also starts the copy of the next column block. -/
theorem wp_step (c : Dev nD) (s : Fin 16) (hs : s ≠ 0) (hs' : s.val < 15) (old : Bool) (ho : old = true → 2 < s.val) (l : List (Fin 16)) (K : PUnit → sProp 𝕄) :
    iprop(recs m κ ∗ wBusy c (par s.val) (s.val / 2) ∗ wIdle m c (par (s.val + 1)) ((s.val + 1) / 2)
        ∗ yPrev c (par (s.val + 1)) ((s.val - 1) / 2) old ∗ (wTok c (par (s.val + 1)) ((s.val + 1) / 2) ∗ sendTodo c s)
        ∗ owing c (owedR c (s :: l)) ∗ xPts m c)
      ⊢ iprop(((wBusy c (par (s.val + 1)) ((s.val + 1) / 2) ∗ wIdle m c (par s.val) (s.val / 2 + 1)
            ∗ yBusy c (par (s.val + 1)) ((s.val - 1) / 2) ∗ owing c (owedR c l) ∗ xPts m c) -∗ K ⟨⟩)
          -∗ WP c (step c s true old) K) := by
  have e : step (F := F) c s true old = (startW (k0_off2 c (BitVec.ofNat 32 s.val)) (next_inb c s) (par (s.val + 1)) >>= fun _ => step c s false old) := rfl
  rw [e]; simp only [wp_bind]
  iintro ⟨#HR, Hw, Hw', Hy, ⟨Htw, Hto⟩, HO, Hx⟩ HK
  iapply (wp_startW m κ c (par (s.val + 1)) ((s.val + 1) / 2) (by omega) _ _ (next_step c s hs')) $$ [Hw' Htw]
  · isplitr; · iexact HR
    isplitl [Hw'] <;> iassumption
  iintro Hw'
  iapply (wp_work m κ c s hs old ho l) $$ [Hw Hy Hto HO Hx]
  · isplitr; · iexact HR
    isplitl [Hw]; · iexact Hw
    isplitl [Hy]; · iexact Hy
    isplitl [Hto]; · iexact Hto
    isplitl [HO] <;> iassumption
  iintro ⟨Hw, Hy, HO, Hx⟩
  iapply HK
  isplitl [Hw']; · iexact Hw'
  isplitl [Hw]; · iexact Hw
  isplitl [Hy]; · iexact Hy
  isplitl [HO] <;> iassumption

/-! ## The steps in sequence -/

/-- The product slot step `n` will use. -/
def yOf (c : Dev nD) (n : ℕ) : sProp 𝕄 := yPrev c (par (n + 1)) ((n - 1) / 2) (decide (2 < n))
/-- What step `s` needs besides the slots. -/
def todo (c : Dev nD) (s : Fin 16) : sProp 𝕄 := iprop(wTok c (par (s.val + 1)) ((s.val + 1) / 2) ∗ sendTodo c s)
theorem sepL_cons {J : Type} (Φ : J → sProp 𝕄) (j : J) (l : List J) : sepL Φ (j :: l) = iprop(Φ j ∗ sepL Φ l) := rfl

/-- Where device `c` stands before step `n`, the steps of `l` still to come. -/
def stand (c : Dev nD) (n : ℕ) (l : List (Fin 16)) : sProp 𝕄 :=
  iprop(wBusy c (par n) (n / 2) ∗ wIdle m c (par (n + 1)) ((n + 1) / 2) ∗ yOf c n ∗ yOf c (n + 1)
    ∗ sepL (todo c) l ∗ owing c (owedR c l) ∗ xPts m c)

theorem par_two (n : ℕ) : par (n + 2) = par n := Fin.ext (Nat.add_mod_right n 2)

theorem yOf_next (c : Dev nD) (n : ℕ) (hn : 1 ≤ n) : (yOf c (n + 2) : sProp 𝕄) = yBusy c (par (n + 1)) ((n - 1) / 2) := by
  unfold yOf yPrev
  rw [if_pos (decide_eq_true (by omega)), show n + 2 + 1 = (n + 1) + 2 from rfl, par_two, show (n + 2 - 1) / 2 - 1 = (n - 1) / 2 by omega]

theorem wp_next (c : Dev nD) (s : Fin 16) (hs : s ≠ 0) (hs' : s.val < 15) (l : List (Fin 16)) (K : PUnit → sProp 𝕄) :
    iprop(recs m κ ∗ stand m c s.val (s :: l))
      ⊢ iprop((stand m c (s.val + 1) l -∗ K ⟨⟩) -∗ WP c (step c s true (decide (2 < s.val))) K) := by
  have h1 : 1 ≤ s.val := Nat.pos_of_ne_zero fun h => hs (Fin.ext h)
  unfold stand; rw [sepL_cons]
  iintro ⟨#HR, Hw, Hw', Hy, Hy', ⟨Hs, Hl⟩, HO, Hx⟩ HK
  iapply (wp_step m κ c s hs hs' (decide (2 < s.val)) of_decide_eq_true l) $$ [Hw Hw' Hy Hs HO Hx]
  · isplitr; · iexact HR
    isplitl [Hw]; · iexact Hw
    isplitl [Hw']; · iexact Hw'
    isplitl [Hy]; · unfold yOf; iexact Hy
    isplitl [Hs]; · unfold todo; iexact Hs
    isplitl [HO] <;> iassumption
  iintro ⟨Hw, Hw', Hy, HO, Hx⟩
  iapply HK
  isplitl [Hw]; · iexact Hw
  isplitl [Hw']
  · rw [show s.val + 1 + 1 = s.val + 2 from rfl, par_two, show (s.val + 2) / 2 = s.val / 2 + 1 by omega]; iexact Hw'
  isplitl [Hy']; · iexact Hy'
  isplitl [Hy]
  · rw [show s.val + 1 + 1 = s.val + 2 from rfl, yOf_next c _ h1]; iexact Hy
  isplitl [Hl]; · iexact Hl
  isplitl [HO] <;> iassumption

/-- A run of consecutive steps, each waiting for its product slot. -/
def runs : ℕ → List (Fin 16) → Prop
  | _, [] => True
  | n, s :: l => s.val = n ∧ 2 < n ∧ n < 15 ∧ runs (n + 1) l

theorem wp_steps (c : Dev nD) (t : List (Fin 16)) (K : PUnit → sProp 𝕄) : ∀ (l : List (Fin 16)) (n : ℕ), runs n l →
    iprop(recs m κ ∗ stand m c n (l ++ t))
      ⊢ iprop((stand m c (n + l.length) t -∗ K ⟨⟩) -∗ WP c (each (fun s => step c s true true) l) K)
  | [], n, _ => by
    iintro ⟨#HR, H⟩ HK
    unfold each; rw [Prog.pure_eq_ret]; unfold WP; rw [wp_ret]
    imodintro
    iapply HK; iexact H
  | s :: l, n, ⟨hn, h2, h15, hl⟩ => by
    subst hn
    have h := wp_next m κ c s (fun h => by subst h; exact absurd h2 (by decide)) h15 (l ++ t)
      (fun _ => WP c (each (fun s => step c s true true) l) K)
    rw [decide_eq_true h2] at h
    unfold each; simp only [wp_bind]
    iintro ⟨#HR, H⟩ HK
    iapply h $$ [H]
    · isplitr; · iexact HR
      iexact H
    iintro H
    iapply (wp_steps c t K l (s.val + 1) hl) $$ [H]
    · isplitr; · iexact HR
      iexact H
    rw [List.length_cons, show s.val + 1 + l.length = s.val + (l.length + 1) by omega]
    iexact HK

/-- The first step: its product stays. -/
theorem wp_first (c : Dev nD) (l : List (Fin 16)) (K : PUnit → sProp 𝕄) :
    iprop(recs m κ ∗ wIdle m c 0 0 ∗ wIdle m c 1 0 ∗ wTok c 0 0 ∗ wTok c 1 0 ∗ (∃ f, rowPts c c f) ∗ owing c (owedR c l) ∗ xPts m c)
      ⊢ iprop(((wBusy c 1 0 ∗ wIdle m c 0 1 ∗ rowPts c c (outAt m c) ∗ owing c (owedR c l) ∗ xPts m c) -∗ K ⟨⟩) -∗ WP c (step0 c) K) := by
  have e0 : tgt c (2 * 0 + (0 : Fin 2).val) = c := Fin.ext (Nat.mod_eq_of_lt c.isLt)
  have h0 : k0_off1 c = ![0, 256 * (tgt c (2 * 0 + (0 : Fin 2).val)).val] := by rw [e0]; exact k0_off1_eq c
  have h1 := next_step c 0 (by decide)
  iintro ⟨#HR, H0, H1, Ht0, Ht1, ⟨%f, Ho⟩, HO, Hx⟩ HK
  simp only [step0, wp_bind]
  iapply (wp_startW m κ c 0 0 (by decide) _ _ h0) $$ [H0 Ht0]
  · isplitr; · iexact HR
    isplitl [H0] <;> iassumption
  iintro H0
  iapply (wp_startW m κ c 1 0 (by decide) _ _ h1) $$ [H1 Ht1]
  · isplitr; · iexact HR
    isplitl [H1] <;> iassumption
  iintro H1
  iapply (wp_waitW m κ c 0 0 0 (by decide) l) $$ [H0 HO]
  · isplitr; · iexact HR
    isplitl [H0] <;> iassumption
  rw [e0]
  unfold wHas
  iintro ⟨HO, ⟨%g, %hg, Hw⟩, Hsrc, Hat, Hre⟩
  iapply (wp_loadX m c) $$ Hx
  iintro Hx
  iapply (wp_loadW c 0 g) $$ Hw
  iintro Hw
  iapply (wp_loadO c f) $$ Ho
  iintro %v Ho
  iapply (wp_storeO m c f _ (by rw [prodV_read, hg])) $$ Ho
  iintro Ho
  iapply HK
  isplitl [H1]; · iexact H1
  isplitl [Hw Hsrc Hat Hre]
  · unfold wIdle
    isplitl [Hw]; · iexists g; iexact Hw
    isplitl [Hsrc]; · iexact Hsrc
    isplitl [Hat] <;> iassumption
  isplitl [Ho]; · iexact Ho
  isplitl [HO] <;> iassumption

/-! ## The barrier -/

theorem wp_signals (c : Dev nD) (K : PUnit → sProp 𝕄) : ∀ l : List (Fin 16), (∀ s ∈ l, s ≠ 0) →
    iprop(recs m κ ∗ sepL (fun s => iprop(dutyTok ER (barCell (fwdD c s)) 0 c ∗ ∃ f, rowPts (fwdD c s) c f)) l ∗ owing c (owedB c l))
      ⊢ iprop((owing c (owedR c peers) -∗ K ⟨⟩) -∗ WP c (each (fun s => semSignalWord (fwdD c s) barS 1#32) l) K)
  | [], _ => by
    iintro ⟨#HR, -, HO⟩ HK
    unfold each; rw [Prog.pure_eq_ret]; unfold WP; rw [wp_ret]
    imodintro
    iapply HK; unfold owedB; iexact HO
  | s :: l, hl => by
    have ih := wp_signals c K l fun s hs => hl s (List.mem_cons_of_mem _ hs)
    unfold each; simp only [wp_bind]; rw [sepL_cons]
    unfold semSignalWord at ih ⊢
    unfold owing
    iintro ⟨#HR, ⟨⟨Ht, Hrow⟩, Hl⟩, ⟨%W, HO⟩⟩ HK
    iapply (Rounds.wp_signal 𝒱₀ ER (sched m) (c : Thread nD τ) none (dst := (fwdD c s : Thread nD τ)) (κ := κ (fwdD c s, 0)) (d := c)
        (by rw [duties_bar]; exact Finset.mem_erase.mpr ⟨(fwd_ne_self c s (hl s (List.mem_cons_self ..))).symm, Finset.mem_univ _⟩)
        ((amount_bar m (fwdD c s) 0 c).trans (by decide)) () (owedB c l) rfl) $$ [HO Ht Hrow]
    · isplitr; · iapply (recs_inv m κ (fwdD c s, 0)); iexact HR
      isplitl [HO]; · iexact HO
      isplitl [Ht]; · iexact Ht
      isplitl [Hrow]; · rw [payload_bar]; unfold barPay; iexact Hrow
      iapply (recs_begun m κ (fwdD c s, 0)); iexact HR
    iintro HO
    rw [wp_ret]; imodintro
    iapply ih $$ [Hl HO]
    · isplitr; · iexact HR
      isplitl [Hl]; · iexact Hl
      unfold owing; iexists W; iexact HO
    unfold owing; iexact HK

/-- The barrier's wait: every peer has entered, and handed over this device's row block of its output. -/
theorem wp_barrier (c : Dev nD) (K : PUnit → sProp 𝕄) :
    iprop(recs m κ ∗ cred (tallyAt (barCell c) () 15) ∗ atPos ER (barCell c) 0 ∅ 0 ∗ owing c (owedR c peers))
      ⊢ iprop(((owing c (owedR c peers) ∗ atPos ER (barCell c) 1 ∅ 0 ∗ sepL (fun s => iprop(∃ f, rowPts c (fwdD c s) f)) peers) -∗ K ⟨⟩)
        -∗ WP c (semWaitWord barS 15#32) K) := by
  have hk : 0 + 15 = (sched m).expect (barCell c) 0 := by rw [expect_bar]
  unfold owing semWaitWord
  iintro ⟨#HR, Hc, Hat, ⟨%W, HO⟩⟩ HK
  iapply (Rounds.wp_wait_rest_token 𝒱₀ ER (sched m) (c : Thread nD τ) none (κ := κ (c, 0))
      (wpE_semWait_eq 𝒱₀ (c : Thread nD τ) none Set.univ) (Set.mem_univ _) () (O := owedR c peers) (W := W) (R := 0) (m := 0) (T := ∅) hk) $$ [Hc HO Hat]
  · isplitr; · iapply (recs_inv m κ (c, 0)); iexact HR
    isplitl [Hc]; · iexact Hc
    isplitl [HO]; · iexact HO
    isplitr
    · unfold recs
      icases HR with ⟨-, -, #H⟩
      iapply (mayWait_bar c); iexact H
    iexact Hat
  iintro ⟨HO, Hat, -, Hpay⟩
  rw [wp_ret]; imodintro
  iapply HK
  isplitl [HO]; · iexists _; iexact HO
  isplitl [Hat]; · iexact Hat
  have h : bigSep ((sched m).duties (barCell c) 0 \ ∅) (fun d => (sched m).payload (barCell c) 0 d)
      ⊢ sepL (fun s => iprop(∃ f, rowPts c (fwdD c s) f)) peers := by
    rw [Finset.sdiff_empty, duties_bar]
    exact sepL_of_bigSep (barPay c) (fwdD c) peers _ (fwd_nodup c) fun s hs => Finset.mem_erase.mpr ⟨fwd_ne c s hs, Finset.mem_univ _⟩
  iapply h; iexact Hpay

/-! ## The arrivals -/

/-- Some arrivals waited for: those whose rows came with the waits so far are held. -/
def heard (c : Dev nD) (a : ℕ) : sProp 𝕄 := iprop(∃ T, ⌜T ⊆ Finset.univ.erase c⌝ ∗ atPos ER (recvCell c) 0 T a ∗ bigSep T fun d => recvPay m c d)

theorem joinHeard (c : Dev nD) (T S : Finset (Dev nD)) (h : T ⊆ S) :
    iprop((bigSep T fun d => recvPay m c d) ∗ bigSep (S \ T) fun d => (sched m).payload (recvCell c) 0 d) ⊢ bigSep S fun d => recvPay m c d := by
  rw [bigSep_congr fun d _ => payload_recv m c 0 d]
  exact Entails.of_eq (bigSep_sdiff_split h).symm

theorem wp_recvs (c : Dev nD) (K : PUnit → sProp 𝕄) : ∀ (l : List (Fin 16)) (s : Fin 16) (a : ℕ), a + (l.length + 1) * N = 15 * N →
    iprop(recs m κ ∗ heard m c a ∗ cred (tallyAt (recvCell c) () ((l.length + 1) * N)) ∗ owing c 0)
      ⊢ iprop(((owing c 0 ∗ atPos ER (recvCell c) 1 ∅ 0 ∗ bigSep (Finset.univ.erase c) fun d => recvPay m c d) -∗ iprop(|={Set.univ}=> K ⟨⟩))
        -∗ WP c (each (waitR c) (s :: l)) K)
  | [], s, a, ha => by
    have hk : a + (oRows (k0_off6 c (BitVec.ofNat 32 s.val)) (from_inb c s)).view.dmaCredit = (sched m).expect (recvCell c) 0 := by
      rw [expect_recv, ← ha]; exact congrArg (a + ·) (Nat.one_mul N).symm
    have e : ([] : List (Fin 16)).length + 1 = 1 := rfl
    rw [e, Nat.one_mul]
    unfold each each; simp only [wp_bind]; unfold waitR Prog.lift owing heard
    iintro ⟨#HR, ⟨%T, %hT, Hat, Hh⟩, Hc, ⟨%W, HO⟩⟩ HK
    iapply (Rounds.wp_wait_rest_token 𝒱₀ ER (sched m) (c : Thread nD τ) none (κ := κ (c, 1))
      (wpE_waitDma2_eq 𝒱₀ (c : Thread nD τ) none Set.univ) (Set.mem_univ _) () (O := 0) (W := W) (R := 0) (m := a) (T := T) hk) $$ [Hc HO Hat]
    · isplitr; · iapply (recs_inv m κ (c, 1)); iexact HR
      isplitl [Hc]; · iexact Hc
      isplitl [HO]; · iexact HO
      isplitr; · rw [MayWait_zero]; iempintro
      iexact Hat
    iintro ⟨HO, Hat, -, Hpay⟩
    rw [wp_ret]; imodintro
    rw [Prog.pure_eq_ret, wp_ret]
    iapply HK
    isplitl [HO]; · iexists _; iexact HO
    isplitl [Hat]; · iexact Hat
    iapply (joinHeard m c T _ hT)
    isplitl [Hh]; · iexact Hh
    iexact Hpay
  | s' :: l, s, a, ha => by
    have e : (s' :: l).length + 1 = l.length + 1 + 1 := rfl
    rw [e, Nat.add_mul (l.length + 1) 1 N, Nat.one_mul] at ha
    rw [e, Nat.add_mul (l.length + 1) 1 N, Nat.one_mul, ← tallyAt_add]
    have h := wp_recvs c K l s' (a + N) (by omega)
    conv => enter [2, 2]; unfold each
    simp only [wp_bind]; unfold waitR Prog.lift owing heard
    iintro ⟨#HR, ⟨%T, %hT, Hat, Hh⟩, Hc, ⟨%W, HO⟩⟩ HK
    ihave Hc' := (cred_add _ _).1 $$ Hc
    icases Hc' with ⟨Hc, Hc1⟩
    iapply (Rounds.wp_wait 𝒱₀ ER (sched m) (c : Thread nD τ) none (κ := κ (c, 1))
      (wpE_waitDma2_eq 𝒱₀ (c : Thread nD τ) none Set.univ) (Set.mem_univ _) {(SemLoc.dma rSem, ())} (cr := Finsupp.single () N) (O := 0) (W := W) (R := 0) (m := a) (T := T)
      (by rw [Util.total_single]; rfl) (image_single_subset _ () N)) $$ [Hc1 HO Hat]
    · isplitr; · iapply (recs_inv m κ (c, 1)); iexact HR
      isplitl [Hc1]; · iexact Hc1
      isplitl [HO]; · iexact HO
      isplitr; · rw [show MayOwe (c : Thread nD τ) {(SemLoc.dma rSem, ())} 0 = MayWait (c : Thread nD τ) (SemLoc.dma rSem) () 0 from rfl, MayWait_zero]; iempintro
      iexact Hat
    iintro %S ⟨%hS, HO, Hat, Hpay⟩
    rw [wp_ret]; imodintro
    rw [duties_recv] at hS
    iapply h $$ [HO Hat Hpay Hh Hc]
    · isplitr; · iexact HR
      isplitl [Hat Hpay Hh]
      · unfold heard
        iexists S
        isplitr; · ipureintro; exact hS.2.1
        isplitl [Hat]; · iexact Hat
        iapply (joinHeard m c T S hS.1)
        isplitl [Hh] <;> iassumption
      isplitl [Hc]; · iexact Hc
      unfold owing; iexists _; iexact HO
    unfold owing; iexact HK

/-! ## The whole body -/

/-- The tokens device `c` pays with: its signals, its sends' arrivals, its copies, its sends. -/
def myToks (c : Dev nD) : sProp 𝕄 :=
  iprop(sepL (fun s => dutyTok ER (barCell (fwdD c s)) 0 c) peers ∗ sepL (fun s => dutyTok ER (recvCell (fwdD c s)) 0 c) peers
    ∗ (wTok c 0 0 ∗ wTok c 1 0 ∗ sepL (fun s : Fin 16 => wTok c (par (s.val + 1)) ((s.val + 1) / 2)) peers)
    ∗ sepL (fun s : Fin 16 => yTok c (par (s.val + 1)) ((s.val - 1) / 2)) peers)
/-- Device `c`'s own cells, at their beginning. -/
def myCells (c : Dev nD) : sProp 𝕄 :=
  iprop(atPos ER (barCell c) 0 ∅ 0 ∗ atPos ER (recvCell c) 0 ∅ 0 ∗ atPos ER (wCell c 0) 0 ∅ 0 ∗ atPos ER (wCell c 1) 0 ∅ 0
    ∗ atPos ER (yCell c 0) 0 ∅ 0 ∗ atPos ER (yCell c 1) 0 ∅ 0)
/-- Its cells closed. -/
def myZeros (c : Dev nD) : sProp 𝕄 :=
  iprop(semVal (barCell c) 0 ∗ semVal (recvCell c) 0 ∗ semVal (wCell c 0) 0 ∗ semVal (wCell c 1) 0 ∗ semVal (yCell c 0) 0 ∗ semVal (yCell c 1) 0)
/-- The buffers the body works in besides the staged rows. -/
def myBufs (c : Dev nD) : sProp 𝕄 :=
  iprop((((c : Thread nD τ).loc main_arg1) ↦{fullShare} wAt m c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The output buffer taken apart: the device's own rows, and each peer's. -/
theorem out_apart (c : Dev nD) : iprop(∃ f : Buf (Elt F) ((c : Thread nD τ).loc cc0_stg1_0), ((c : Thread nD τ).loc cc0_stg1_0) ↦{fullShare} f)
    ⊢ (iprop((∃ f, rowPts c c f) ∗ sepL (fun s => iprop(∃ f, rowPts (fwdD c s) c f)) peers) : sProp 𝕄) := by
  iintro ⟨%f, H⟩
  ihave H := (Entails.of_eq (out_rows c f)) $$ H
  have e : (bigSep Finset.univ fun d : Dev nD => (rowPts d c f : sProp 𝕄)) = iprop(rowPts c c f ∗ bigSep (Finset.univ.erase c) fun d => rowPts d c f) :=
    bigSep_erase (Finset.mem_univ c)
  ihave H := (Entails.of_eq e) $$ H
  icases H with ⟨H0, H⟩
  isplitl [H0]; · iexists f; iexact H0
  have h : (bigSep (Finset.univ.erase c) fun d : Dev nD => rowPts d c f)
      ⊢ (bigSep (Finset.univ.erase c) fun d : Dev nD => iprop(∃ f, rowPts d c f) : sProp 𝕄) := bigSep_mono fun d _ => by
    show rowPts d c f ⊢ (iprop(∃ f, rowPts d c f) : sProp 𝕄)
    iintro H; iexists f; iexact H
  iapply (sepL_of_bigSep (fun d : Dev nD => iprop(∃ f, rowPts d c f)) (fwdD c) peers _ (fwd_nodup c)
    fun s hs => Finset.mem_erase.mpr ⟨fwd_ne c s hs, Finset.mem_univ _⟩)
  iapply h; iexact H
/-- And put together again once all its rows hold products. -/
theorem out_together (c : Dev nD) : iprop(rowPts c c (outAt m c) ∗ bigSep (Finset.univ.erase c) fun d => recvPay m c d)
    ⊢ (((c : Thread nD τ).loc cc0_stg1_0) ↦{fullShare} outAt m c : sProp 𝕄) := by
  rw [out_rows, bigSep_erase (Finset.mem_univ c)]; exact Entails.refl _

theorem begun_w (c : Dev nD) (b : Fin 2) : recs m κ ⊢ reached ER (wCell c b) 0 := by
  rw [← kcell_w]; exact recs_begun m κ _
theorem begun_y (c : Dev nD) (b : Fin 2) : recs m κ ⊢ reached ER (yCell c b) 0 := by
  rw [← kcell_y]; exact recs_begun m κ _
theorem close_w (c : Dev nD) (b : Fin 2) : iprop(recs m κ ∗ wIdle m c b 8) ⊢ |={Set.univ}=> iprop(semVal (wCell c b) 0 ∗ (∃ f, wPts c b f) ∗ srcPts m c b) := by
  unfold wIdle
  iintro ⟨#HR, Hw, Hs, Hat, -⟩
  imod (Rounds.cell_close ER (sched m) (Set.mem_univ (κ (c, kw b))) (fun h => h) (R := 8) (duties_w_after m c b)) $$ [Hat] with Hz
  · isplitr; · iapply (recs_w m κ c b); iexact HR
    iexact Hat
  imodintro
  isplitl [Hz]; · iexact Hz
  isplitl [Hw] <;> iassumption
theorem close_y (c : Dev nD) (b : Fin 2) (r : ℕ) (hr : 15 ≤ 2 * r + b.val) :
    iprop(recs m κ ∗ yIdle c b r) ⊢ |={Set.univ}=> iprop(semVal (yCell c b) 0 ∗ ∃ f, yPts c b f) := by
  unfold yIdle
  iintro ⟨#HR, Hy, Hat, -⟩
  imod (Rounds.cell_close ER (sched m) (Set.mem_univ (κ (c, ky b))) (fun h => h) (R := r) fun r' h => duties_y_after m c b r' (by omega)) $$ [Hat] with Hz
  · isplitr; · iapply (recs_y m κ c b); iexact HR
    iexact Hat
  imodintro
  isplitl [Hz] <;> iassumption

theorem wp_loop (c : Dev nD) (K : PUnit → sProp 𝕄) :
    iprop(recs m κ ∗ myCells c ∗ myToks c ∗ (cred (tallyAt (barCell c) () 15) ∗ cred (tallyAt (recvCell c) () (15 * N)))
        ∗ myBufs m c ∗ xPts m c
        ∗ (∃ f : Buf (Elt F) ((c : Thread nD τ).loc cc0_stg1_0), ((c : Thread nD τ).loc cc0_stg1_0) ↦{fullShare} f) ∗ owing c (O₀ c))
      ⊢ iprop(((myZeros c ∗ myBufs m c ∗ xPts m c ∗ (((c : Thread nD τ).loc cc0_stg1_0) ↦{fullShare} outAt m c) ∗ owing c 0) -∗ iprop(|={Set.univ}=> K ⟨⟩))
        -∗ WP c loop K) := by
  have hmid : runs 3 middles := ⟨rfl, by decide, by decide, rfl, by decide, by decide, rfl, by decide, by decide, rfl, by decide, by decide, rfl, by decide, by decide,
    rfl, by decide, by decide, rfl, by decide, by decide, rfl, by decide, by decide, rfl, by decide, by decide, rfl, by decide, by decide,
    rfl, by decide, by decide, rfl, by decide, by decide, trivial⟩
  simp only [loop, wp_bind]
  unfold myCells myToks myBufs Prog.lift
  iintro ⟨#HR, ⟨HaB, HaR, HaW0, HaW1, HaY0, HaY1⟩, ⟨HtB, HtR, ⟨Htw0, Htw1, Htw⟩, Hty⟩, ⟨HcB, HcR⟩, ⟨Hsrc, ⟨%f0, Hsc0⟩, ⟨%f1, Hsc1⟩⟩, Hx, Hout, HO⟩ HK
  rw [wp_deviceId, wp_ret]; imodintro
  -- the buffers taken apart
  ihave Hsrc := (src_split m c).1 $$ Hsrc
  icases Hsrc with ⟨Hs0, Hs1⟩
  ihave Hw := (Entails.of_eq (w_slots c f0)) $$ Hsc0
  icases Hw with ⟨Hw0, Hw1⟩
  ihave Hy := (Entails.of_eq (y_slots c f1)) $$ Hsc1
  icases Hy with ⟨Hy0, Hy1⟩
  ihave Ho := (out_apart c) $$ Hout
  icases Ho with ⟨Hown, Hrows⟩
  -- the barrier
  iapply (wp_signals m κ c _ peers (by decide)) $$ [HtB Hrows HO]
  · isplitr; · iexact HR
    isplitl [HtB Hrows]
    · iapply (sepL_zip (fun s => dutyTok ER (barCell (fwdD c s)) 0 c) (fun s => iprop(∃ f, rowPts (fwdD c s) c f)) peers)
      isplitl [HtB] <;> iassumption
    · unfold O₀; iexact HO
  iintro HO
  iapply (wp_barrier m κ c) $$ [HcB HaB HO]
  · isplitr; · iexact HR
    isplitl [HcB]; · iexact HcB
    isplitl [HaB] <;> iassumption
  iintro ⟨HO, HaB, Hrows⟩
  imod (Rounds.cell_close ER (sched m) (Set.mem_univ (κ (c, 0))) (fun h => h) (R := 1) (duties_bar_after m c)) $$ [HaB] with HzB
  · isplitr; · iapply (recs_inv m κ (c, 0)); iexact HR
    iexact HaB
  -- the first step
  iapply (wp_first m κ c peers) $$ [Hw0 Hw1 Hs0 Hs1 HaW0 HaW1 Htw0 Htw1 Hown HO Hx]
  · isplitr; · iexact HR
    isplitl [Hw0 Hs0 HaW0]
    · unfold wIdle
      isplitl [Hw0]; · iexists f0; iexact Hw0
      isplitl [Hs0]; · iexact Hs0
      isplitl [HaW0]; · iexact HaW0
      iapply (begun_w m κ c 0); iexact HR
    isplitl [Hw1 Hs1 HaW1]
    · unfold wIdle
      isplitl [Hw1]; · iexists f0; iexact Hw1
      isplitl [Hs1]; · iexact Hs1
      isplitl [HaW1]; · iexact HaW1
      iapply (begun_w m κ c 1); iexact HR
    isplitl [Htw0]; · iexact Htw0
    isplitl [Htw1]; · iexact Htw1
    isplitl [Hown]; · iexact Hown
    isplitl [HO] <;> iassumption
  iintro ⟨Hb1, Hi0, Hown, HO, Hx⟩
  -- the steps that send
  ihave Hst : iprop(stand m c 1 peers) $$ [Hb1 Hi0 Hy0 Hy1 HaY0 HaY1 Htw Hty HtR Hrows HO Hx]
  · unfold stand
    isplitl [Hb1]; · iexact Hb1
    isplitl [Hi0]; · iexact Hi0
    isplitl [Hy0 HaY0]
    · iapply (show yIdle c 0 0 ⊢ (yOf c 1 : sProp 𝕄) from Entails.of_eq rfl)
      unfold yIdle
      isplitl [Hy0]; · iexists f1; iexact Hy0
      isplitl [HaY0]; · iexact HaY0
      iapply (begun_y m κ c 0); iexact HR
    isplitl [Hy1 HaY1]
    · iapply (show yIdle c 1 0 ⊢ (yOf c 2 : sProp 𝕄) from Entails.of_eq rfl)
      unfold yIdle
      isplitl [Hy1]; · iexists f1; iexact Hy1
      isplitl [HaY1]; · iexact HaY1
      iapply (begun_y m κ c 1); iexact HR
    isplitl [Htw Hty HtR Hrows]
    · unfold todo sendTodo
      iapply (sepL_zip (fun s : Fin 16 => wTok c (par (s.val + 1)) ((s.val + 1) / 2)) _ peers)
      isplitl [Htw]; · iexact Htw
      iapply (sepL_zip (fun s : Fin 16 => yTok c (par (s.val + 1)) ((s.val - 1) / 2)) _ peers)
      isplitl [Hty]; · iexact Hty
      iapply (sepL_zip (fun s => dutyTok ER (recvCell (fwdD c s)) 0 c) (fun s => iprop(∃ f, rowPts c (fwdD c s) f)) peers)
      isplitl [HtR] <;> iassumption
    isplitl [HO] <;> iassumption
  iapply (wp_next m κ c 1 (by decide) (by decide) (2 :: (middles ++ [15]))) $$ [Hst]
  · isplitr; · iexact HR
    iexact Hst
  iintro Hst
  iapply (wp_next m κ c 2 (by decide) (by decide) (middles ++ [15])) $$ [Hst]
  · isplitr; · iexact HR
    iexact Hst
  iintro Hst
  iapply (wp_steps m κ c [15] _ middles 3 hmid) $$ [Hst]
  · isplitr; · iexact HR
    iexact Hst
  unfold stand; rw [sepL_cons]; unfold todo
  iintro ⟨Hb, Hi0, Hy, Hy', ⟨⟨-, Hto⟩, -⟩, HO, Hx⟩
  -- the last
  iapply (wp_work m κ c 15 (by decide) true (by decide) []) $$ [Hb Hy Hto HO Hx]
  · isplitr; · iexact HR
    isplitl [Hb]; · iexact Hb
    isplitl [Hy]
    · iapply (show (yOf c 15 : sProp 𝕄) ⊢ yPrev c (par ((15 : Fin 16).val + 1)) (((15 : Fin 16).val - 1) / 2) true from Entails.of_eq rfl); iexact Hy
    isplitl [Hto]; · iexact Hto
    isplitl [HO] <;> iassumption
  iintro ⟨Hi1, Hy, HO, Hx⟩
  iapply (wp_waitS m κ c 1 6 (by decide) []) $$ [Hy' HO]
  · isplitr; · iexact HR
    isplitl [Hy']
    · iapply (show (yOf c 16 : sProp 𝕄) ⊢ yBusy c 1 6 from Entails.of_eq rfl); iexact Hy'
    iexact HO
  iintro ⟨HO, Hy1⟩
  iapply (wp_waitS m κ c 0 7 (by decide) []) $$ [Hy HO]
  · isplitr; · iexact HR
    isplitl [Hy]; · iexact Hy
    iexact HO
  iintro ⟨HO, Hy0⟩
  -- the copies' and the sends' cells close
  imod (close_w m κ c 0) $$ [Hi0] with ⟨HzW0, Hw0, Hs0⟩
  · isplitr; · iexact HR
    iexact Hi0
  imod (close_w m κ c 1) $$ [Hi1] with ⟨HzW1, Hw1, Hs1⟩
  · isplitr; · iexact HR
    iexact Hi1
  imod (close_y m κ c 0 8 (by decide)) $$ [Hy0] with ⟨HzY0, Hy0⟩
  · isplitr; · iexact HR
    iexact Hy0
  imod (close_y m κ c 1 7 (by decide)) $$ [Hy1] with ⟨HzY1, Hy1⟩
  · isplitr; · iexact HR
    iexact Hy1
  -- the arrivals
  iapply (wp_recvs m κ c _ [2, 3, 4, 5, 6, 7, 8, 9, 10, 11, 12, 13, 14, 15] 1 0 (Nat.zero_add _)) $$ [HaR HcR HO]
  · isplitr; · iexact HR
    isplitl [HaR]
    · unfold heard
      iexists ∅
      isplitr; · ipureintro; exact Finset.empty_subset _
      isplitl [HaR]; · iexact HaR
      rw [bigSep_empty]; iempintro
    isplitl [HcR]; · iexact HcR
    iexact HO
  iintro ⟨HO, HaR, Hgot⟩
  imod (Rounds.cell_close ER (sched m) (Set.mem_univ (κ (c, 1))) (fun h => h) (R := 1) (duties_recv_after m c)) $$ [HaR] with HzR
  · isplitr; · iapply (recs_inv m κ (c, 1)); iexact HR
    iexact HaR
  iapply HK
  unfold myZeros
  isplitl [HzB HzR HzW0 HzW1 HzY0 HzY1]
  · isplitl [HzB]; · iexact HzB
    isplitl [HzR]; · iexact HzR
    isplitl [HzW0]; · iexact HzW0
    isplitl [HzW1]; · iexact HzW1
    isplitl [HzY0] <;> iassumption
  isplitl [Hs0 Hs1 Hw0 Hw1 Hy0 Hy1]
  · isplitl [Hs0 Hs1]
    · iapply (src_split m c).2
      isplitl [Hs0] <;> iassumption
    isplitl [Hw0 Hw1]
    · iapply (w_join c)
      isplitl [Hw0] <;> iassumption
    · iapply (y_join c)
      isplitl [Hy0] <;> iassumption
  isplitl [Hx]; · iexact Hx
  isplitl [Hown Hgot]
  · iapply (out_together m c)
    isplitl [Hown] <;> iassumption
  iexact HO

end Cert.KernelIdeal.Exchange
end
-- ==== Proof.KernelIdeal.Body.lean ====
/- The body of the exchange as the pipeline runs it: the proof data of the region and the body obligation. -/
module

public import proofs.«01_k».proof.Proof.KernelIdeal.Work
public import proofs.«01_k».proof.Proof.Gen.KernelIdeal.Points
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The body as the pipeline runs it -/

/-- Every cell's invariant, and that every cell has begun. -/
def records (κ : Dev nD × Fin 6 → ℕ) : sProp 𝕄 :=
  iprop((bigSep Finset.univ fun ck : Dev nD × Fin 6 => cellInv ER (sched m) (κ ck) (kcell ck))
    ∗ bigSep Finset.univ fun ck : Dev nD × Fin 6 => reached ER (kcell ck) 0)
instance records_persistent (κ : Dev nD × Fin 6 → ℕ) : BI.Persistent (records m κ) := by unfold records; infer_instance

/-- Device `c`'s part of the exchange's ghost state. -/
def deal (c : Dev nD) : sProp 𝕄 := iprop(∃ κ, records m κ ∗ myCells c ∗ myToks c)

/-- What the body on device `c` starts from, besides the staged buffers. -/
def start (c : Dev nD) : sProp 𝕄 :=
  iprop(deal m c ∗ (cred (tallyAt (barCell c) () 15) ∗ cred (tallyAt (recvCell c) () (15 * N))) ∗ levAts L lv
    ∗ (((c : Thread nD τ).loc main_arg1) ↦{fullShare} wAt m c))
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
def atStart (c : Dev nD) : sProp 𝕄 := iprop(start m c ∗ scratches c)
def atEnd (c : Dev nD) : sProp 𝕄 := iprop(myZeros c ∗ myBufs m c)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => outAt m c
  Φ t := match t with
    | ⟨0, _⟩ => atStart m c
    | ⟨_ + 1, _⟩ => atEnd m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(atStart m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))
def bodyPost (c : Dev nD) : sProp 𝕄 :=
  iprop(atEnd m c ∗ (dats m 0 c).owesAt () t0_0.succ ∗ stg c cc0_stg0_0 (xAt m c) ∗ stg c cc0_stg1_0 (outAt m c))

theorem sound_body (c : Dev nD) : bodyPre m c ⊢ WP c (bodyAt0 t0_0) fun _ => bodyPost m c := by
  rw [show bodyAt0 (F := F) t0_0 = loop from body_eq]
  unfold bodyPre atStart start deal records scratches
  iintro ⟨⟨⟨⟨%κ, ⟨#HI, #Hb⟩, Hcells, Htoks⟩, Hcred, #Hlev, Hsrc⟩, Hs0, Hs1⟩, Ho, ⟨%d0, %g0, %hg0, Hx⟩, ⟨%d1, %g1, %hg1, Hout⟩⟩
  have hx : g0 = xAt m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  iapply (wp_loop m κ c fun _ => bodyPost m c) $$ [Hcells Htoks Hcred Hsrc Hs0 Hs1 Hx Hout HO]
  · isplitr
    · unfold recs
      isplitr; · iexact HI
      isplitr; · iexact Hb
      iexact Hlev
    isplitl [Hcells]; · iexact Hcells
    isplitl [Htoks]; · iexact Htoks
    isplitl [Hcred]; · iexact Hcred
    isplitl [Hsrc Hs0 Hs1]
    · unfold myBufs
      isplitl [Hsrc]; · iexact Hsrc
      isplitl [Hs0] <;> iassumption
    isplitl [Hx]; · unfold xPts; iexact Hx
    isplitl [Hout]; · iexists g1; iexact Hout
    unfold owing; iexists W; iexact HO
  unfold owing xPts
  iintro ⟨Hz, Hbufs, Hx, Hout, ⟨%W', HO⟩⟩
  imodintro
  unfold bodyPost atEnd Dat.owesAt Pipeline.owesWithin
  rw [show (dats m 0 c).owed t0_0.succ = 0 from rfl]
  isplitl [Hz Hbufs]; · isplitl [Hz] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 20000 in
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ WP c (bodyAt0 t0_0) fun _ => bodyPost m c
  exact sound_body m c

end Cert.KernelIdeal.Exchange
end
-- ==== Proof.KernelIdeal.Launch.lean ====
/- The launch of the exchange: cells and tokens dealt to the devices, what each waits for, and the run of the program. -/
module

public import proofs.«01_k».proof.Proof.KernelIdeal.Body

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

theorem ownSemFacts : Pipeline.OwnSemFacts cfg0.spec osem := by decide

theorem share_eq (c : Dev nD) (w : Fin cfg0.W) : (dats m 0 c).share w = fullShare := by unfold Dat.share; split <;> rfl

/-! ## The cells and tokens minted -/

theorem kcell_injective : Function.Injective (kcell : Dev nD × Fin 6 → GSem nD τ sig) := by
  rintro ⟨c, k⟩ ⟨c', k'⟩ h
  have hc : c = c' := congrArg (fun g : GSem nD τ sig => g.1.1) h
  have hk : k = k' := (by decide : Function.Injective csem) (congrArg Prod.snd h)
  rw [hc, hk]

/-- A token: whose cell, which cell, which round, and the device that pays. -/
abbrev Tk : Type := Dev nD × Fin 6 × Fin 9 × Dev nD
abbrev tokOf (x : Tk) : GSem nD τ sig × ℕ × Dev nD := (kcell (x.1, x.2.1), x.2.2.1.val, x.2.2.2)
theorem tokOf_injective : Function.Injective tokOf := by
  rintro ⟨c, k, r, d⟩ ⟨c', k', r', d'⟩ h
  have hk := kcell_injective (congrArg Prod.fst h)
  have hr : r = r' := Fin.ext (congrArg (fun x => x.2.1) h)
  have hd : d = d' := congrArg (fun x => x.2.2) h
  cases hk; cases hr; cases hd; rfl

def allCells : Finset (GSem nD τ sig) := Finset.univ.map ⟨kcell, kcell_injective⟩
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  bigSep Finset.univ fun k : Fin 6 => bigSep Finset.univ fun r : Fin 9 => bigSep Finset.univ fun d : Dev nD => dutyTok ER (kcell (c, k)) r.val d

/-- What the launch element deals device `c`. -/
def G (c : Dev nD) : sProp 𝕄 :=
  iprop((bigSep Finset.univ fun k : Fin 6 => roundState ER (sched m) (kcell (c, k)) 0)
    ∗ (bigSep Finset.univ fun k : Fin 6 => iprop(atPos ER (kcell (c, k)) 0 ∅ 0 ∗ reached ER (kcell (c, k)) 0)) ∗ toks c)

omit [FloatOps F] in
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 6 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks
    rw [bigSep_map, bigSep_univ_prod]
    refine bigSep_congr fun c _ => ?_
    rw [bigSep_univ_prod]
    refine bigSep_congr fun k _ => ?_
    rw [bigSep_univ_prod]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(semVal (recvCell c) 0 ∗ semVal (wCell c 0) 0 ∗ semVal (wCell c 1) 0 ∗ semVal (yCell c 0) 0 ∗ semVal (yCell c 1) 0) := by
  rw [Pipeline.ownSems0_eq_of_list c osem [0, 1, 2, 3, 4] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 6 => semVal (kcell (c, k)) 0 : sProp 𝕄) := by
  rw [ownSems0_eq, unscopedSems0_eq, bigSep_fin6]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 6 => semVal (kcell (c, k)) 0) ∗ bigSep Finset.univ fun k : Fin 6 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat] <;> iassumption

/-! ## The tokens dealt to the devices that pay with them -/

/-- A slot's place among the column block copies, and among the sends. -/
abbrev wUse (s : Fin 16) : Fin 2 × Fin 9 := (par (s.val + 1), ⟨(s.val + 1) / 2, by omega⟩)
abbrev yUse (s : Fin 16) : Fin 2 × Fin 9 := (par (s.val + 1), ⟨(s.val - 1) / 2, by omega⟩)

omit [FloatOps F] in
/-- Of one cell's tokens, those of its round `0`; -/
theorem round0 (c : Dev nD) (k : Fin 6) :
    (bigSep Finset.univ fun r : Fin 9 => bigSep Finset.univ fun d : Dev nD => (dutyTok ER (kcell (c, k)) r.val d : sProp 𝕄))
      ⊢ bigSep Finset.univ fun d : Dev nD => dutyTok ER (kcell (c, k)) 0 d :=
  bigSep_elim (Φ := fun r : Fin 9 => bigSep Finset.univ fun d : Dev nD => (dutyTok ER (kcell (c, k)) r.val d : sProp 𝕄)) (Finset.mem_univ 0)
omit [FloatOps F] in
/-- or the device's own of each round. -/
theorem mine (c : Dev nD) (k : Fin 6) :
    (bigSep Finset.univ fun r : Fin 9 => bigSep Finset.univ fun d : Dev nD => (dutyTok ER (kcell (c, k)) r.val d : sProp 𝕄))
      ⊢ bigSep Finset.univ fun r : Fin 9 => dutyTok ER (kcell (c, k)) r.val c :=
  bigSep_mono fun r _ => bigSep_elim (Φ := fun d : Dev nD => (dutyTok ER (kcell (c, k)) r.val d : sProp 𝕄)) (Finset.mem_univ c)

omit [FloatOps F] in
/-- Two slots' rows of tokens, by slot and round. -/
theorem slots_join (Φ : Fin 2 → Fin 9 → sProp 𝕄) :
    iprop((bigSep Finset.univ (Φ 0)) ∗ bigSep Finset.univ (Φ 1)) = bigSep Finset.univ fun p : Fin 2 × Fin 9 => Φ p.1 p.2 := by
  rw [bigSep_univ_prod, bigSep_univ_eq_bigSepL [(0 : Fin 2), 1] (by decide) (by decide)]; rfl

omit [FloatOps F] in
theorem w_deal (c : Dev nD) : (bigSep Finset.univ fun p : Fin 2 × Fin 9 => (wTok c p.1 p.2.val : sProp 𝕄))
    ⊢ iprop(wTok c 0 0 ∗ wTok c 1 0 ∗ sepL (fun s : Fin 16 => wTok c (par (s.val + 1)) ((s.val + 1) / 2)) peers) := by
  refine (sepL_of_bigSep (fun p : Fin 2 × Fin 9 => (wTok c p.1 p.2.val : sProp 𝕄)) id ((0, 0) :: (1, 0) :: peers.map wUse) Finset.univ
    (by decide +kernel) fun _ _ => Finset.mem_univ _).trans (Entails.of_eq ?_)
  show iprop(wTok c 0 0 ∗ wTok c 1 0 ∗ sepL (fun p : Fin 2 × Fin 9 => (wTok c p.1 p.2.val : sProp 𝕄)) (peers.map wUse)) = _
  rw [sepL_map]
omit [FloatOps F] in
theorem y_deal (c : Dev nD) : (bigSep Finset.univ fun p : Fin 2 × Fin 9 => (yTok c p.1 p.2.val : sProp 𝕄))
    ⊢ sepL (fun s : Fin 16 => yTok c (par (s.val + 1)) ((s.val - 1) / 2)) peers :=
  sepL_of_bigSep (fun p : Fin 2 × Fin 9 => (yTok c p.1 p.2.val : sProp 𝕄)) yUse peers Finset.univ (by decide +kernel) fun _ _ => Finset.mem_univ _

omit [FloatOps F] in
theorem toks_own (c : Dev nD) : (toks c : sProp 𝕄)
    ⊢ iprop((bigSep Finset.univ fun d : Dev nD => dutyTok ER (barCell c) 0 d) ∗ (bigSep Finset.univ fun d : Dev nD => dutyTok ER (recvCell c) 0 d)
      ∗ (wTok c 0 0 ∗ wTok c 1 0 ∗ sepL (fun s : Fin 16 => wTok c (par (s.val + 1)) ((s.val + 1) / 2)) peers)
      ∗ sepL (fun s : Fin 16 => yTok c (par (s.val + 1)) ((s.val - 1) / 2)) peers) := by
  unfold toks
  rw [bigSep_fin6]
  iintro ⟨H0, H1, H2, H3, H4, H5⟩
  isplitl [H0]; · iapply (round0 (F := F) c 0); iexact H0
  isplitl [H1]; · iapply (round0 (F := F) c 1); iexact H1
  isplitl [H2 H3]
  · iapply (w_deal (F := F) c)
    iapply (Entails.of_eq (slots_join (F := F) fun b r => wTok c b r.val))
    isplitl [H2]; · iapply (mine (F := F) c 2); iexact H2
    iapply (mine (F := F) c 3); iexact H3
  iapply (y_deal (F := F) c)
  iapply (Entails.of_eq (slots_join (F := F) fun b r => yTok c b r.val))
  isplitl [H4]; · iapply (mine (F := F) c 4); iexact H4
  iapply (mine (F := F) c 5); iexact H5

omit [FloatOps F] in
/-- A round's tokens, from the devices whose cells they are to the devices that pay with them. -/
theorem toks_across (cell : Dev nD → GSem nD τ sig) :
    (bigSep Finset.univ fun c : Dev nD => bigSep Finset.univ fun d : Dev nD => (dutyTok ER (cell c) 0 d : sProp 𝕄))
      ⊢ bigSep Finset.univ fun d : Dev nD => sepL (fun s => dutyTok ER (cell (fwdD d s)) 0 d) peers := by
  rw [BI.bigSep_univ_comm]
  exact bigSep_mono fun d _ => sepL_of_bigSep (fun c => (dutyTok ER (cell c) 0 d : sProp 𝕄)) (fwdD d) peers Finset.univ (fwd_nodup d) fun _ _ => Finset.mem_univ _

omit [FloatOps F] in
theorem bigSep_four (A B C D : Dev nD → sProp 𝕄) : (bigSep Finset.univ fun c => iprop(A c ∗ B c ∗ C c ∗ D c))
    = iprop(bigSep Finset.univ A ∗ bigSep Finset.univ B ∗ bigSep Finset.univ C ∗ bigSep Finset.univ D) := by
  rw [bigSep_sep', bigSep_sep', bigSep_sep']
omit [FloatOps F] in
theorem toks_around : (bigSep Finset.univ fun c : Dev nD => (toks c : sProp 𝕄)) ⊢ bigSep Finset.univ fun c : Dev nD => myToks c := by
  unfold myToks
  rw [bigSep_four]
  refine (bigSep_mono fun c _ => toks_own (F := F) c).trans ?_
  rw [bigSep_four]
  exact BIClass.sep_mono (toks_across (F := F) barCell) (BIClass.sep_mono (toks_across (F := F) recvCell) .rfl)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_intro (κ : Dev nD × Fin 6 → ℕ) (c : Dev nD) : iprop(records m κ ∗ (bigSep Finset.univ fun k : Fin 6 => atPos ER (kcell (c, k)) 0 ∅ 0) ∗ myToks c) ⊢ deal m c := by
  unfold deal myCells
  rw [bigSep_fin6]
  iintro ⟨HR, Hat, Ht⟩
  iexists κ
  isplitl [HR]; · iexact HR
  isplitl [Hat] <;> iassumption

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (deal m) := by
  rw [bigSep_sep', bigSep_sep', ← bigSep_univ_prod (fun ck : Dev nD × Fin 6 => iprop(∃ κ : ℕ, cellInv ER (sched m) κ (kcell ck))),
    bigSep_congr (s := Finset.univ) (fun (c : Dev nD) _ => bigSep_sep' Finset.univ (fun k : Fin 6 => (atPos ER (kcell (c, k)) 0 ∅ 0 : sProp 𝕄)) (fun k => reached ER (kcell (c, k)) 0)),
    bigSep_sep', ← bigSep_univ_prod (fun ck : Dev nD × Fin 6 => (reached ER (kcell ck) 0 : sProp 𝕄))]
  iintro ⟨HI, ⟨Hat, #HR⟩, Htok⟩
  ihave HK := (BI.bigSep_exists_pi Finset.univ (fun (ck : Dev nD × Fin 6) (κ : ℕ) => (cellInv ER (sched m) κ (kcell ck) : sProp 𝕄))) $$ HI
  icases HK with ⟨%κ, #HI⟩
  ihave Htk := (toks_around (F := F)) $$ Htok
  iapply (bigSep_with_persistent (R := records m κ) fun c _ => deal_intro m κ c)
  isplitr
  · unfold records; isplitl; · iexact HI
    iexact HR
  · iapply (Entails.of_eq (bigSep_sep' Finset.univ (fun c : Dev nD => bigSep Finset.univ fun k : Fin 6 => (atPos ER (kcell (c, k)) 0 ∅ 0 : sProp 𝕄)) myToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (deal m) :=
  ((bigSep_mono fun c _ => core_alloc m c).trans (bigSep_fupd _ _)).trans (BI.fupd_mono (regroup m))

/-! ## The launch credit -/

theorem recv_ne_bar : (SemLoc.dma rSem : SemLoc sig) ≠ .reg barS := by decide
theorem cell_iff (sm : SemLoc sig) (a b : Dev nD) : ((((a : Thread nD τ), sm) : GSem nD τ sig) = ((b : Thread nD τ), sm)) ↔ a = b :=
  ⟨fun h => congrArg (fun g : GSem nD τ sig => g.1.1) h, fun h => h ▸ rfl⟩

/-- How many of `l` lead from `d` to `c`. -/
def hits (d c : Dev nD) (l : List (Fin 16)) : ℕ := (l.filter fun s => fwdD d s = c).length
theorem hits_cons (d c : Dev nD) (s : Fin 16) (l : List (Fin 16)) : hits d c (s :: l) = hits d c l + if fwdD d s = c then 1 else 0 := by
  unfold hits; rw [List.filter_cons]; by_cases h : fwdD d s = c <;> simp [h]
theorem hits_peers : ∀ c : Dev nD, ∑ d : Dev nD, hits d c peers = 15 := by decide +kernel

theorem owedR_bar (d c : Dev nD) (l : List (Fin 16)) : owedR d l (barCell c) () = 0 := by
  by_contra h
  obtain ⟨e, he⟩ := owedR_pos (Nat.pos_of_ne_zero h)
  exact recv_ne_bar (congrArg Prod.snd he).symm
theorem owedR_recv (d c : Dev nD) (l : List (Fin 16)) : owedR d l (recvCell c) () = hits d c l * N := by
  induction l with
  | nil => exact (Nat.zero_mul N).symm
  | cons s l ih =>
    unfold owedR
    rw [Pi.add_apply, Finsupp.add_apply, tallyAt_apply, ih, hits_cons, Nat.add_mul]
    congr 1
    by_cases h : fwdD d s = c
    · rw [if_pos ⟨(cell_iff _ _ _).mpr h.symm, rfl⟩, if_pos h, Nat.one_mul]
    · rw [if_neg fun h' => h ((cell_iff _ _ _).mp h'.1).symm, if_neg h, Nat.zero_mul]
theorem owedB_bar (d c : Dev nD) (l : List (Fin 16)) : owedB d l (barCell c) () = hits d c l := by
  induction l with
  | nil => exact owedR_bar d c peers
  | cons s l ih =>
    unfold owedB
    rw [Pi.add_apply, Finsupp.add_apply, tallyAt_apply, ih, hits_cons]
    congr 1
    by_cases h : fwdD d s = c
    · rw [if_pos ⟨(cell_iff _ _ _).mpr h.symm, rfl⟩, if_pos h]
    · rw [if_neg fun h' => h ((cell_iff _ _ _).mp h'.1).symm, if_neg h]
theorem owedB_recv (d c : Dev nD) (l : List (Fin 16)) : owedB d l (recvCell c) () = hits d c peers * N := by
  induction l with
  | nil => exact owedR_recv d c peers
  | cons s l ih =>
    unfold owedB
    rw [Pi.add_apply, Finsupp.add_apply, tallyAt_apply, ih, if_neg fun h => recv_ne_bar (congrArg Prod.snd h.1), Nat.add_zero]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  exact (Finset.sum_congr rfl fun d _ => owedB_bar d c peers).trans (hits_peers c)
theorem launch_recv (c : Dev nD) :
    tallyOn (recvCell c) (launchCredit (Pipeline.owing O₀) 0 (recvCell c)) = (tallyAt (recvCell c) () (15 * N) : CellTallies nD τ sig Unit) := by
  unfold tallyAt; refine congrArg _ (Finsupp.ext fun u => ?_); cases u
  rw [Pipeline.launchCredit_owing, Finsupp.single_eq_same]
  exact (Finset.sum_congr rfl fun d _ => owedB_recv d c peers).trans (by rw [← Finset.sum_mul, hits_peers])

omit [FloatOps F] in
theorem creds (c : Dev nD) :
    (Pipeline.launchCred O₀ c : sProp 𝕄) ⊢ iprop(cred (tallyAt (barCell c) () 15) ∗ cred (tallyAt (recvCell c) () (15 * N))) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ deal m c)
      ⊢ |={Set.univ}=> iprop(start m c ∗ emp) := by
  rw [Pipeline.unscopedRestP_none, show cfg0.spec = spec0 from rfl, unscopedRest0_eq]
  iintro ⟨Hw, Hlev, Hcr, -, HG⟩
  ihave Hc := (creds (F := F) c) $$ Hcr
  imodintro
  unfold start
  isplitl
  · isplitl [HG]; · iexact HG
    isplitl [Hc]; · iexact Hc
    isplitl [Hlev] <;> iassumption
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = atStart m c from rfl, show cfg0.spec = spec0 from rfl, scopedRest0_eq]
  unfold atStart scratches
  iintro ⟨Hs, -, Hr⟩
  isplitl [Hs] <;> iassumption

/-- What is left after the region. -/
def left (c : Dev nD) : sProp 𝕄 := iprop(unscopedSems0 c ∗ (((c : Thread nD τ).loc main_arg1) ↦{fullShare} wAt m c))

theorem leave (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = atEnd m c from rfl, show cfg0.spec = spec0 from rfl, scopedRest0_eq, ownSems0_eq]
  unfold left atEnd myZeros myBufs
  rw [unscopedSems0_eq]
  iintro ⟨⟨HB, HO⟩, Hw, Hs⟩
  isplitl [HB Hw]
  · isplitl [HB] <;> iassumption
  isplitl [HO] <;> iassumption

theorem lv_other (c : Dev nD) (sm : SemLoc sig) (h : use sm = .other) : lv ((c : Thread nD τ), sm) () = 0 := by unfold lv; rw [h]
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low₀ c _ (lv_other c _ (by fin_cases w <;> fin_cases s <;> decide))
    · show (levAts L lv : sProp 𝕄) ⊢ MayWait _ _ () 0
      rw [MayWait_zero]; iintro -; iempintro

/-! ## The run -/

def finalA (c : Dev nD) (w : Fin cfg0.W) : Buf (Elt F) ((cfg0.win w).arr.view.loc (c : Thread nD τ)) := (dats m 0 c).arrAt w cfg0.N

/-- The array of rows is only read; -/
theorem finalA_x (c : Dev nD) : finalA m c (0 : Fin 2) = m (win0_0.arr.view.loc (c : Thread nD τ)) :=
  (dats (F := F) m 0 c).arrAt_in (0 : Fin 2) rfl _
/-- the result's one block, read back, is the output. -/
theorem finalA_o (c : Dev nD) : (win0_1.blk (0 : Fin 1)).view.read (Elt F) (finalA m c (1 : Fin 2)) = outAt m c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from flush0_1 _, if_pos rfl]
  exact View.read_write_univ _ _

/-- The states the run may end in: the windows' arrays as computed, `w` unchanged. -/
def ends (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg1) = wAt m c

set_option maxRecDepth 8000 in
/-- From any memory with zero counters every weakly fair execution on the sixteen devices terminates, with the arrays
    as computed and every counter at zero. -/
theorem run_main : θ_run defs (onTc (τ := τ) (main (F := F))) (s₀ m ρ) (fun r => ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := deal m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := enter m) (hout := leave m)
    (QY := fun c s => (∀ sm : SemLoc sig, sm.isScoped .tc = false → s.sem ((c.tc : Thread nD τ), sm) = 0) ∧ s.mem ((c : Thread nD τ).loc main_arg1) = wAt m c)
    (hY := fun c s' => by
      unfold left
      iintro ⟨⟨Hu, Hw⟩, -, HSI⟩
      imod (Pipeline.unscopedSems0_read (X := unscopedSems0 c) (c := c) fupd_intro s') $$ [Hu HSI] with ⟨%hu, HSI⟩
      · isplitl [Hu] <;> iassumption
      ihave %hw := (SI_pointsTo_agree) $$ [HSI Hw]
      · isplitl [HSI] <;> iassumption
      imodintro
      isplitr
      · ipureintro; exact ⟨hu, funext fun i => hw i (Finset.mem_univ i)⟩
      iexact HSI)
    (hQ := fun _ h hs => ⟨fun c => ⟨(h c).1, (h c).2.2.2⟩, sem_eq_zero hs fun c => (h c).2.2.1⟩)

end Cert.KernelIdeal.Exchange
end
-- ==== Proof.Value.lean ====
/- What the exchange computes over the extended reals: device `c` ends with column block `c` of the one product of the
   whole arrays. -/
module

public import proofs.«01_k».proof.Proof.KernelIdeal.Launch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.Pipeline.Value
public import Idealize.ShloMosaic.PureOps.Ideal

@[expose] public section

noncomputable section

namespace Cert.KernelIdeal.Exchange

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- A window's one block is the array itself. -/
theorem read_rows (f : (main_arg0 : Ref sig .tc).ty.Contents (Elt Ideal)) : (win0_0.blk (0 : Fin 1)).view.read (Elt Ideal) f = f := by
  funext i
  refine congrArg f (funext fun a => Fin.ext ?_)
  fin_cases a <;> exact (Nat.zero_add _).trans (Nat.one_mul _)
theorem read_result (f : (main_v1 : Ref sig .tc).ty.Contents (Elt Ideal)) : (win0_1.blk (0 : Fin 1)).view.read (Elt Ideal) f = f := by
  funext i
  refine congrArg f (funext fun a => Fin.ext ?_)
  fin_cases a <;> exact (Nat.zero_add _).trans (Nat.one_mul _)

/-- The result array of device `c` after the run. -/
theorem result_eq (c : Dev nD) : finalA m c (1 : Fin 2) = outAt m c := (read_result _).symm.trans (finalA_o m c)

/-- The rows a device holds. -/
theorem xAt_eq (d : Dev nD) : xAt m d = m ((d : Thread nD τ).loc main_arg0) := read_rows _

/-- An entry of column block `e` of `w`. -/
theorem wBlk_apply (d e : Dev nD) (k : Fin 8192) (j : Fin 256) :
    wBlk m d e (ix2 k j) = wAt m d (ix2 k ⟨256 * e.val + j.val, by have := e.isLt; have : nD = 16 := rfl; omega⟩) := by
  refine congrArg (wAt m d) (funext fun a => Fin.ext ?_)
  fin_cases a
  · exact (Nat.zero_add _).trans (Nat.one_mul _)
  · exact congrArg (256 * e.val + ·) (Nat.one_mul _)

/-- An entry of a product: the row times the column. -/
theorem prod2_apply (x : Vec Ideal S512x8192 .f32) (w : FVec Ideal S8192x256 .f32) (r : Fin 512) (j : Fin 256) :
    prod2 x w (ix2 r j) = ∑ k : Fin 8192, x (ix2 r k) * w (ix2 k j) := by
  unfold prod2
  rw [show shapeCast S512x8192 x shapeCasts_S512x8192_S512x8192 = x from shapeCast_self _ _]
  refine (Ideal.matmul_plain_apply (M := 512) (K := 8192) (N := 256) none x w _ r j).trans ?_
  rw [show (constant S512x256 .f32 0x00000000#32 : FVec Ideal S512x256 .f32) (ix2 r j) = 0 from Ideal.ofBits_zero_f32, zero_add]

/-- The place of an entry in its row block. -/
theorem inRow_ix2 (a : Fin 8192) (b : Fin 256) : inRow (ix2 a b) = ix2 ⟨a.val % 512, Nat.mod_lt _ (by decide)⟩ b := by
  funext ax
  fin_cases ax <;> rfl

/-- The output on device `e` is its column block of the product of the whole arrays. -/
theorem outAt_eq (x : FVec Ideal ReferenceIdeal.S8192x8192 .f32) (w : FVec Ideal ReferenceIdeal.S8192x4096 .f32)
    (hx : ∀ d : Dev nD, m ((d : Thread nD τ).loc main_arg0) = Layout.block ⟨2, ![512, 8192]⟩ ⟨2, ![8192, 8192]⟩ 0 16 d x)
    (hw : ∀ d : Dev nD, m ((d : Thread nD τ).loc main_arg1) = w) (e : Dev nD) :
    outAt m e = Layout.block ⟨2, ![8192, 256]⟩ ⟨2, ![8192, 4096]⟩ 1 16 e
      (Host.dotGeneral ReferenceIdeal.dot_S8192x8192_S8192x4096_S8192x4096_1_0_0_1_n_n none x w) := by
  funext i
  obtain ⟨a, b, rfl⟩ : ∃ (a : Fin 8192) (b : Fin 256), i = ix2 a b := ⟨i 0, i 1, eq_ix2 i⟩
  rw [Layout.block_apply]
  have hi : (by decide : Layout.Tiles ⟨2, ![8192, 256]⟩ ⟨2, ![8192, 4096]⟩ 1 16).idx e (ix2 a b)
      = ix2 a ⟨256 * e.val + b.val, by have := e.isLt; have : nD = 16 := rfl; omega⟩ := by
    funext ax; apply Fin.ext
    fin_cases ax
    · rfl
    · exact congrArg (· + b.val) (Nat.mul_comm _ _)
  rw [hi]
  refine Eq.trans ?_ (StackMember.dotGeneral_plain_apply (m := 8192) (k := 8192) (n := 4096) none x w a _).symm
  unfold outAt
  rw [inRow_ix2, prod2_apply]
  show (Finset.univ.sum (_ : Fin 8192 → EReal)) = Finset.univ.sum (_ : Fin 8192 → EReal)
  refine Finset.sum_congr rfl fun k _ => ?_
  rw [xAt_eq, wBlk_apply, hx, Layout.block_apply]
  have hr : (by decide : Layout.Tiles ⟨2, ![512, 8192]⟩ ⟨2, ![8192, 8192]⟩ 0 16).idx (rowOf (ix2 a b)) (ix2 ⟨a.val % 512, Nat.mod_lt _ (by decide)⟩ k) = ix2 a k := by
    funext ax; apply Fin.ext
    fin_cases ax
    · exact Nat.div_add_mod' _ _
    · rfl
  rw [hr, show wAt m (rowOf (ix2 a b)) = w from hw _]

end Cert.KernelIdeal.Exchange
end
-- ==== Proof.lean ====
module

public import proofs.«01_k».proof.Defs
public import proofs.«01_k».proof.Proof.Gen.ReferenceIdeal
public import proofs.«01_k».proof.Proof.Kernel.Launch
public import proofs.«01_k».proof.Proof.KernelIdeal.Launch
public import proofs.«01_k».proof.Proof.Value
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel over machine floats runs, leaves its arguments and ends with every counter at zero. -/
theorem frame_kernel : Cert.quiescent_Kernel := fun m ρ _ =>
  (θ_run Cert.Kernel.defs _ _).mono
    (fun _ h => ⟨fun c => ⟨((h.1 c).1 (0 : Fin 2)).trans (Cert.Kernel.Exchange.finalA_x m c), (h.1 c).2⟩, h.2⟩)
    (Cert.Kernel.Exchange.run_main (F := Bits) m ρ)

/-- The same of the kernel over the extended reals. -/
theorem frame_ideal : Cert.quiescent_KernelIdeal := fun m ρ _ =>
  (θ_run Cert.KernelIdeal.defs _ _).mono
    (fun _ h => ⟨fun c => ⟨((h.1 c).1 (0 : Fin 2)).trans (Cert.KernelIdeal.Exchange.finalA_x m c), (h.1 c).2⟩, h.2⟩)
    (Cert.KernelIdeal.Exchange.run_main (F := Ideal) m ρ)

/-- The reference runs; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Device `c` ends with column block `c` of the reference's product. -/
theorem value : Cert.algebraic_KernelIdeal_ReferenceIdeal := by
  intro m ρ m' ρ' _ hm
  refine ⟨Host.dotGeneral (F := Ideal) (φ₁ := .f32) (φ₂ := .f32) Cert.ReferenceIdeal.dot_S8192x8192_S8192x4096_S8192x4096_1_0_0_1_n_n none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono
      (fun _ h c => ⟨((h.1 c).1 (1 : Fin 2)).trans ((Cert.KernelIdeal.Exchange.result_eq m c).trans
          (Cert.KernelIdeal.Exchange.outAt_eq m _ _ (fun d => (hm d).1) (fun d => (hm d).2) c)),
        ((h.1 c).1 (0 : Fin 2)).trans (Cert.KernelIdeal.Exchange.finalA_x m c), (h.1 c).2⟩)
      (Cert.KernelIdeal.Exchange.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
